-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S8x16x1x64 : Shape := ⟨4, ![8, 16, 1, 64]⟩
abbrev S8x16x4096x64 : Shape := ⟨4, ![8, 16, 4096, 64]⟩
abbrev S64x64 : Shape := ⟨2, ![64, 64]⟩
abbrev S1024x1024 : Shape := ⟨2, ![1024, 1024]⟩
abbrev S_ : Shape := ⟨0, ![]⟩

class Facts : Prop where
  bcast_S_S8x16x1x64 : S_.BroadcastsInDim S8x16x1x64 (![] : Fin 0 → Fin S8x16x1x64.rank)
  bcast_S_S8x16x4096x64 : S_.BroadcastsInDim S8x16x4096x64 (![] : Fin 0 → Fin S8x16x4096x64.rank)
  bcast_S8x16x1x64_S8x16x4096x64_0_1_2_3 : S8x16x1x64.BroadcastsInDim S8x16x4096x64 (![0, 1, 2, 3] : Fin 4 → Fin S8x16x4096x64.rank)

variable [Facts]

def fn {F : FTy → Type} [FloatOps F] (main_arg0 : FVec F S8x16x1x64 .f32) (main_arg1 : FVec F S8x16x4096x64 .f32) (main_arg2 : FVec F S8x16x4096x64 .f32) (main_arg3 : FVec F S64x64 .f32) (main_arg4 : FVec F S64x64 .f32) (main_arg5 : FVec F S1024x1024 .f32) : IVec S8x16x4096x64 1 :=
  let main_v0 : FVec F S8x16x1x64 .f32 := Host.absf main_arg0
  let main_cst : FVec F S_ .f32 := constant S_ .f32 0x7F800000#32
  let main_v1 : FVec F S8x16x1x64 .f32 := broadcastInDim S8x16x1x64 ![] bcast_S_S8x16x1x64 main_cst
  let main_v2 : IVec S8x16x1x64 1 := cmpf .olt main_v0 main_v1
  let main_v3 : FVec F S8x16x4096x64 .f32 := Host.absf main_arg1
  let main_cst_0 : FVec F S_ .f32 := constant S_ .f32 0x7F800000#32
  let main_v4 : FVec F S8x16x4096x64 .f32 := broadcastInDim S8x16x4096x64 ![] bcast_S_S8x16x4096x64 main_cst_0
  let main_v5 : IVec S8x16x4096x64 1 := cmpf .olt main_v3 main_v4
  let main_v6 : IVec S8x16x4096x64 1 := broadcastInDim S8x16x4096x64 ![0, 1, 2, 3] bcast_S8x16x1x64_S8x16x4096x64_0_1_2_3 main_v2
  let main_v7 : IVec S8x16x4096x64 1 := andi main_v6 main_v5
  main_v7
-- ==== Kernel.lean ====
abbrev S8x16x1x64 : Shape := ⟨4, ![8, 16, 1, 64]⟩
abbrev S8x16x4096x64 : Shape := ⟨4, ![8, 16, 4096, 64]⟩
abbrev S64x64 : Shape := ⟨2, ![64, 64]⟩
abbrev S1024x1024 : Shape := ⟨2, ![1024, 1024]⟩
abbrev S128x1x64 : Shape := ⟨3, ![128, 1, 64]⟩
abbrev S524288x64 : Shape := ⟨2, ![524288, 64]⟩
abbrev S16384x64 : Shape := ⟨2, ![16384, 64]⟩
abbrev S4096x64 : Shape := ⟨2, ![4096, 64]⟩
abbrev S1x1x64 : Shape := ⟨3, ![1, 1, 64]⟩
abbrev S1x64 : Shape := ⟨2, ![1, 64]⟩
abbrev S1x4096 : Shape := ⟨2, ![1, 4096]⟩
abbrev S32x128 : Shape := ⟨2, ![32, 128]⟩
abbrev S1x1 : Shape := ⟨2, ![1, 1]⟩
abbrev S1x32x128 : Shape := ⟨3, ![1, 32, 128]⟩
abbrev S1 : Shape := ⟨1, ![1]⟩
abbrev S1x1x1 : Shape := ⟨3, ![1, 1, 1]⟩
abbrev S8x1024 : Shape := ⟨2, ![8, 1024]⟩
abbrev S8x1x1024 : Shape := ⟨3, ![8, 1, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8x16x1x64, .f32⟩
  | .hbm, ⟨1, _⟩ => ⟨S8x16x4096x64, .f32⟩
  | .hbm, ⟨2, _⟩ => ⟨S8x16x4096x64, .f32⟩
  | .hbm, ⟨3, _⟩ => ⟨S64x64, .f32⟩
  | .hbm, ⟨4, _⟩ => ⟨S64x64, .f32⟩
  | .hbm, ⟨5, _⟩ => ⟨S1024x1024, .f32⟩
  | .hbm, ⟨6, _⟩ => ⟨S128x1x64, .f32⟩
  | .hbm, ⟨7, _⟩ => ⟨S524288x64, .f32⟩
  | .hbm, ⟨8, _⟩ => ⟨S524288x64, .f32⟩
  | .hbm, ⟨9, _⟩ => ⟨S128x1x64, .f32⟩
  | .hbm, ⟨10, _⟩ => ⟨S8x1024, .f32⟩
  | .hbm, ⟨11, _⟩ => ⟨S8x1024, .f32⟩
  | .hbm, ⟨12, _⟩ => ⟨S8x1x1024, .f32⟩
  | .local _ .vmem, ⟨0, _⟩ => ⟨S128x1x64, .f32⟩
  | .local _ .vmem, ⟨1, _⟩ => ⟨S16384x64, .f32⟩
  | .local _ .vmem, ⟨2, _⟩ => ⟨S16384x64, .f32⟩
  | .local _ .vmem, ⟨3, _⟩ => ⟨S16384x64, .f32⟩
  | .local _ .vmem, ⟨4, _⟩ => ⟨S16384x64, .f32⟩
  | .local _ .vmem, ⟨5, _⟩ => ⟨S64x64, .f32⟩
  | .local _ .vmem, ⟨6, _⟩ => ⟨S64x64, .f32⟩
  | .local _ .vmem, ⟨7, _⟩ => ⟨S128x1x64, .f32⟩
  | .local _ .vmem, ⟨8, _⟩ => ⟨S8x1024, .f32⟩
  | .local _ .vmem, ⟨9, _⟩ => ⟨S1024x1024, .f32⟩
  | .local _ .vmem, ⟨10, _⟩ => ⟨S8x1024, .f32⟩
  | _, _ => ⟨S8x16x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 3 → Nat :=
  let arg0 : BitVec 32 := BitVec.ofNat 32 (i 0).val
  let c4_i32 : BitVec 32 := 4#32
  let v2 : BitVec 32 := Scalar.muli arg0 c4_i32
  let v3 : BitVec 32 := Scalar.addi v2 c0_i32
  let v6 : Index := Scalar.indexCast v3
  let c0_5 : Index := 0#32
  let c0_6 : Index := 0#32
  ![v6.toNat, 0, 0]
@[reducible] def k0_t1_loop : Scf.Loop 32 :=
  let c0_i32_24 : BitVec 32 := 0#32
  let c8_i32 : BitVec 32 := 8#32
  let v38 : BitVec 32 := Scalar.addi c0_i32_24 c8_i32
  let c1_i32 : BitVec 32 := 1#32
  ⟨c0_i32_24, v38, c1_i32⟩
@[reducible] def k0_t2_loop : Scf.Loop 32 :=
  let c0_i32_29 : BitVec 32 := 0#32
  let c13_i32 : BitVec 32 := 13#32
  let v63 : BitVec 32 := Scalar.addi c0_i32_29 c13_i32
  let c1_i32_30 : BitVec 32 := 1#32
  ⟨c0_i32_29, v63, c1_i32_30⟩
@[reducible] def k0_t3_loop : Scf.Loop 32 :=
  let c0_i32_62 : BitVec 32 := 0#32
  let c8_i32_63 : BitVec 32 := 8#32
  let v130 : BitVec 32 := Scalar.addi c0_i32_62 c8_i32_63
  let c1_i32_64 : BitVec 32 := 1#32
  ⟨c0_i32_62, v130, c1_i32_64⟩
@[reducible] def k0_t4_loop : Scf.Loop 32 :=
  let c0_i32_70 : BitVec 32 := 0#32
  let c13_i32_71 : BitVec 32 := 13#32
  let v155 : BitVec 32 := Scalar.addi c0_i32_70 c13_i32_71
  let c1_i32_72 : BitVec 32 := 1#32
  ⟨c0_i32_70, v155, c1_i32_72⟩
@[reducible] def k0_t5_loop : Scf.Loop 32 :=
  let c0_i32_103 : BitVec 32 := 0#32
  let c8_i32_104 : BitVec 32 := 8#32
  let v222 : BitVec 32 := Scalar.addi c0_i32_103 c8_i32_104
  let c1_i32_105 : BitVec 32 := 1#32
  ⟨c0_i32_103, v222, c1_i32_105⟩
@[reducible] def k0_t6_loop : Scf.Loop 32 :=
  let c0_i32_111 : BitVec 32 := 0#32
  let c13_i32_112 : BitVec 32 := 13#32
  let v247 : BitVec 32 := Scalar.addi c0_i32_111 c13_i32_112
  let c1_i32_113 : BitVec 32 := 1#32
  ⟨c0_i32_111, v247, c1_i32_113⟩
@[reducible] def k0_t7_loop : Scf.Loop 32 :=
  let c0_i32_144 : BitVec 32 := 0#32
  let c8_i32_145 : BitVec 32 := 8#32
  let v314 : BitVec 32 := Scalar.addi c0_i32_144 c8_i32_145
  let c1_i32_146 : BitVec 32 := 1#32
  ⟨c0_i32_144, v314, c1_i32_146⟩
@[reducible] def k0_t8_loop : Scf.Loop 32 :=
  let c0_i32_152 : BitVec 32 := 0#32
  let c13_i32_153 : BitVec 32 := 13#32
  let v339 : BitVec 32 := Scalar.addi c0_i32_152 c13_i32_153
  let c1_i32_154 : BitVec 32 := 1#32
  ⟨c0_i32_152, v339, c1_i32_154⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S8x16x1x64 : Shape := ⟨4, ![8, 16, 1, 64]⟩
abbrev S8x16x4096x64 : Shape := ⟨4, ![8, 16, 4096, 64]⟩
abbrev S64x64 : Shape := ⟨2, ![64, 64]⟩
abbrev S1024x1024 : Shape := ⟨2, ![1024, 1024]⟩
abbrev S8 : Shape := ⟨1, ![8]⟩
abbrev S256 : Shape := ⟨1, ![256]⟩
abbrev S_ : Shape := ⟨0, ![]⟩
abbrev S8x16x1x8x8 : Shape := ⟨5, ![8, 16, 1, 8, 8]⟩
abbrev S1x1x1x1x8 : Shape := ⟨5, ![1, 1, 1, 1, 8]⟩
abbrev S8x16x1x8 : Shape := ⟨4, ![8, 16, 1, 8]⟩
abbrev S8x16x4096x8x8 : Shape := ⟨5, ![8, 16, 4096, 8, 8]⟩
abbrev S8x16x4096x8 : Shape := ⟨4, ![8, 16, 4096, 8]⟩
abbrev S8x16x4096x8x1 : Shape := ⟨5, ![8, 16, 4096, 8, 1]⟩
abbrev S8x16x4096 : Shape := ⟨3, ![8, 16, 4096]⟩
abbrev S8x16x128 : Shape := ⟨3, ![8, 16, 128]⟩
abbrev S8x16x128x1 : Shape := ⟨4, ![8, 16, 128, 1]⟩
abbrev S1 : Shape := ⟨1, ![1]⟩
abbrev S1x1x1x1 : Shape := ⟨4, ![1, 1, 1, 1]⟩
abbrev S8x16x128x64 : Shape := ⟨4, ![8, 16, 128, 64]⟩
abbrev S8x16x64x128 : Shape := ⟨4, ![8, 16, 64, 128]⟩
abbrev S8x16x1x128 : Shape := ⟨4, ![8, 16, 1, 128]⟩
abbrev S8x16x1 : Shape := ⟨3, ![8, 16, 1]⟩
abbrev S8x16x1x1 : Shape := ⟨4, ![8, 16, 1, 1]⟩
abbrev S8x1x16x64 : Shape := ⟨4, ![8, 1, 16, 64]⟩
abbrev S8x1x1024 : Shape := ⟨3, ![8, 1, 1024]⟩

abbrev nBuf : Space → Nat
  | .hbm => 133
  | .vmem => 0
  | .smem => 0
  | _ => 0

abbrev hbmTy0_0 (i : Nat) : BufTy := match i % 128 with
  | 0 => ⟨S8x16x1x64, .f32⟩
  | 1 => ⟨S8x16x4096x64, .f32⟩
  | 2 => ⟨S8x16x4096x64, .f32⟩
  | 3 => ⟨S64x64, .f32⟩
  | 4 => ⟨S64x64, .f32⟩
  | 5 => ⟨S1024x1024, .f32⟩
  | 6 => ⟨S8, .i32⟩
  | 7 => ⟨S8, .i32⟩
  | 8 => ⟨S256, .i32⟩
  | 9 => ⟨S8x16x1x64, .f32⟩
  | 10 => ⟨S_, .f32⟩
  | 11 => ⟨S8x16x1x64, .f32⟩
  | 12 => ⟨S8x16x1x64, .f32⟩
  | 13 => ⟨S8x16x1x64, .f32⟩
  | 14 => ⟨S_, .f32⟩
  | 15 => ⟨S8x16x1x64, .f32⟩
  | 16 => ⟨S8x16x1x64, .i1⟩
  | 17 => ⟨S8x16x1x64, .i8⟩
  | 18 => ⟨S8x16x1x8x8, .i8⟩
  | 19 => ⟨S8x16x1x8x8, .i32⟩
  | 20 => ⟨S1x1x1x1x8, .i32⟩
  | 21 => ⟨S8x16x1x8x8, .i32⟩
  | 22 => ⟨S8x16x1x8x8, .i32⟩
  | 23 => ⟨S_, .i32⟩
  | 24 => ⟨S8x16x1x8, .i32⟩
  | 25 => ⟨S8x16x1x8, .i8⟩
  | 26 => ⟨S8x16x4096x64, .f32⟩
  | 27 => ⟨S_, .f32⟩
  | 28 => ⟨S8x16x4096x64, .f32⟩
  | 29 => ⟨S8x16x4096x64, .f32⟩
  | 30 => ⟨S8x16x4096x64, .f32⟩
  | 31 => ⟨S_, .f32⟩
  | 32 => ⟨S8x16x4096x64, .f32⟩
  | 33 => ⟨S8x16x4096x64, .i1⟩
  | 34 => ⟨S8x16x4096x64, .i8⟩
  | 35 => ⟨S8x16x4096x8x8, .i8⟩
  | 36 => ⟨S8x16x4096x8x8, .i32⟩
  | 37 => ⟨S1x1x1x1x8, .i32⟩
  | 38 => ⟨S8x16x4096x8x8, .i32⟩
  | 39 => ⟨S8x16x4096x8x8, .i32⟩
  | 40 => ⟨S_, .i32⟩
  | 41 => ⟨S8x16x4096x8, .i32⟩
  | 42 => ⟨S8x16x4096x8, .i8⟩
  | 43 => ⟨S8x16x1x8, .i32⟩
  | 44 => ⟨S8x16x4096x8, .i32⟩
  | 45 => ⟨S8x16x4096x8, .i32⟩
  | 46 => ⟨S8x16x4096x8, .i32⟩
  | 47 => ⟨S_, .i32⟩
  | 48 => ⟨S8x16x4096x8, .i32⟩
  | 49 => ⟨S8x16x4096x8, .i1⟩
  | 50 => ⟨S_, .i32⟩
  | 51 => ⟨S8x16x4096x8, .i32⟩
  | 52 => ⟨S8x16x4096x8, .i32⟩
  | 53 => ⟨S8x16x4096x8, .i32⟩
  | 54 => ⟨S8x16x4096x8x1, .i32⟩
  | 55 => ⟨S8x16x4096x8, .i32⟩
  | 56 => ⟨S_, .i32⟩
  | 57 => ⟨S8x16x4096, .i32⟩
  | 58 => ⟨S_, .i32⟩
  | 59 => ⟨S8x16x4096, .i32⟩
  | 60 => ⟨S8x16x4096, .i32⟩
  | 61 => ⟨S8x16x128, .i32⟩
  | 62 => ⟨S8x16x128, .i32⟩
  | 63 => ⟨S8x16x128x1, .i32⟩
  | 64 => ⟨S_, .i32⟩
  | 65 => ⟨S8x16x128x1, .i32⟩
  | 66 => ⟨S8x16x128x1, .i1⟩
  | 67 => ⟨S_, .i32⟩
  | 68 => ⟨S8x16x128x1, .i32⟩
  | 69 => ⟨S8x16x128x1, .i32⟩
  | 70 => ⟨S8x16x128x1, .i32⟩
  | 71 => ⟨S1, .i32⟩
  | 72 => ⟨S_, .i32⟩
  | 73 => ⟨S8x16x128x1, .i32⟩
  | 74 => ⟨S8x16x128x1, .i1⟩
  | 75 => ⟨S1x1x1x1, .i32⟩
  | 76 => ⟨S8x16x128x1, .i32⟩
  | 77 => ⟨S8x16x128x1, .i1⟩
  | 78 => ⟨S8x16x128x1, .i1⟩
  | 79 => ⟨S_, .i1⟩
  | 80 => ⟨S8x16x128, .i1⟩
  | 81 => ⟨S8x16x128x64, .f32⟩
  | 82 => ⟨S8x16x128x64, .i1⟩
  | 83 => ⟨S_, .f32⟩
  | 84 => ⟨S8x16x128x64, .f32⟩
  | 85 => ⟨S8x16x128x64, .f32⟩
  | 86 => ⟨S_, .i32⟩
  | 87 => ⟨S8x16x128x1, .i32⟩
  | 88 => ⟨S8x16x128x1, .i1⟩
  | 89 => ⟨S_, .i32⟩
  | 90 => ⟨S8x16x128x1, .i32⟩
  | 91 => ⟨S8x16x128x1, .i32⟩
  | 92 => ⟨S8x16x128x1, .i32⟩
  | 93 => ⟨S1, .i32⟩
  | 94 => ⟨S_, .i32⟩
  | 95 => ⟨S8x16x128x1, .i32⟩
  | 96 => ⟨S8x16x128x1, .i1⟩
  | 97 => ⟨S1x1x1x1, .i32⟩
  | 98 => ⟨S8x16x128x1, .i32⟩
  | 99 => ⟨S8x16x128x1, .i1⟩
  | 100 => ⟨S8x16x128x1, .i1⟩
  | 101 => ⟨S_, .i1⟩
  | 102 => ⟨S8x16x128, .i1⟩
  | 103 => ⟨S8x16x128x64, .f32⟩
  | 104 => ⟨S8x16x128x64, .i1⟩
  | 105 => ⟨S_, .f32⟩
  | 106 => ⟨S8x16x128x64, .f32⟩
  | 107 => ⟨S8x16x128x64, .f32⟩
  | 108 => ⟨S8x16x64x128, .f32⟩
  | 109 => ⟨S8x16x1x128, .f32⟩
  | 110 => ⟨S_, .f32⟩
  | 111 => ⟨S_, .f32⟩
  | 112 => ⟨S8x16x1x128, .f32⟩
  | 113 => ⟨S8x16x1x128, .f32⟩
  | 114 => ⟨S_, .f32⟩
  | 115 => ⟨S8x16x1, .f32⟩
  | 116 => ⟨S_, .f32⟩
  | 117 => ⟨S8x16x1, .f32⟩
  | 118 => ⟨S8x16x1, .f32⟩
  | 119 => ⟨S8x16x1x1, .f32⟩
  | 120 => ⟨S8x16x1x128, .f32⟩
  | 121 => ⟨S8x16x1x128, .f32⟩
  | 122 => ⟨S8x16x1x128, .f32⟩
  | 123 => ⟨S_, .f32⟩
  | 124 => ⟨S8x16x1, .f32⟩
  | 125 => ⟨S8x16x1x1, .f32⟩
  | 126 => ⟨S8x16x1x128, .f32⟩
  | 127 => ⟨S8x16x1x128, .f32⟩
  | _ => ⟨S8x16x1x64, .f32⟩

abbrev hbmTy0_1 (i : Nat) : BufTy := match i % 128 with
  | 0 => ⟨S8x16x1x64, .f32⟩
  | 1 => ⟨S8x1x16x64, .f32⟩
  | 2 => ⟨S8x1x1024, .f32⟩
  | 3 => ⟨S1024x1024, .f32⟩
  | 4 => ⟨S8x1x1024, .f32⟩
  | _ => ⟨S8x16x1x64, .f32⟩

abbrev hbmTy (i : Nat) : BufTy := match i / 128 with
  | 0 => hbmTy0_0 i
  | 1 => hbmTy0_1 i
  | _ => ⟨S8x16x1x64, .f32⟩

abbrev bufTy : (tb : Table) → Fin (tcTables nBuf tb) → BufTy
  | .hbm, ⟨i, _⟩ => hbmTy i
  | _, _ => ⟨S8x16x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_cst : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_values : Ref sig .tc := ⟨.hbm, 61, rfl⟩
abbrev main_indices : Ref sig .tc := ⟨.hbm, 62, rfl⟩
abbrev main_v40 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v41 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_c_1 : Ref sig .tc := ⟨.hbm, 93, rfl⟩
abbrev main_call3_c_2 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_c_3 : Ref sig .tc := ⟨.hbm, 101, rfl⟩
abbrev main_call3_v11 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_cst_9 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_cst_10 : Ref sig .tc := ⟨.hbm, 114, rfl⟩
abbrev main_v48 : Ref sig .tc := ⟨.hbm, 115, rfl⟩
abbrev main_cst_11 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_cst_12 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩

abbrev nD : Nat := 1
abbrev τ : Topo := Topo.v7x

variable {F : FTy → Type} [FloatOps F]
-- ==== Proof.Body.lean ====
/-
  The two kernel bodies, run once. For each body: what it leaves in the buffer it writes, WITH the proof that from
  its operands' buffers held whole it runs to its return and hands every buffer back.
-/
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the two pipelines. -/
abbrev UU : Type := UR sig nD τ

local notation "𝕄" => MT nD τ sig Unit (Elt F) ℕ UU ℕ

/-- Memref `M`'s buffer on core `c`. -/
abbrev Bf (c : Dev nD) {sp : Space} {S : Shape} {e : EltTy} (M : Memref sig .tc sp S e) : Type :=
  Buf (Elt F) (M.view.loc (c : Thread nD τ))

/-- That buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The attention body at grid point `i`: what it leaves in the output's buffer, and the run. -/
def attnRun (c : Dev nD) (i : grid0.Coords)
    (M1 : Memref sig .tc .vmem S128x1x64 .f32) (h1 : M1.IsWhole) (M2 : Memref sig .tc .vmem S16384x64 .f32) (h2 : M2.IsWhole)
    (M3 : Memref sig .tc .vmem S16384x64 .f32) (h3 : M3.IsWhole) (M4 : Memref sig .tc .vmem S64x64 .f32) (h4 : M4.IsWhole)
    (M5 : Memref sig .tc .vmem S64x64 .f32) (h5 : M5.IsWhole) (M6 : Memref sig .tc .vmem S128x1x64 .f32) (h6 : M6.IsWhole)
    (f1 : Bf (F := F) c M1) (f2 : Bf (F := F) c M2) (f3 : Bf (F := F) c M3) (f4 : Bf (F := F) c M4) (f5 : Bf (F := F) c M5)
    (f6 : Bf (F := F) c M6) :
    { W : Bf (F := F) c M6 // ∀ (E : Set ℕ) (Q : PUnit → sProp 𝕄),
        iprop(pt c M1 f1 ∗ pt c M2 f2 ∗ pt c M3 f3 ∗ pt c M4 f4 ∗ pt c M5 f5 ∗ pt c M6 f6
            ∗ (iprop(pt c M1 f1 ∗ pt c M2 f2 ∗ pt c M3 f3 ∗ pt c M4 f4 ∗ pt c M5 f5 ∗ pt c M6 W) -∗ Q ⟨⟩))
          ⊢ wp frame (wpE (defs₀ (F := F)) Variants.none c none) E
              (cc0__attn_body i M1 h1 M2 h2 M3 h3 M4 h4 M5 h5 M6 h6) Q } := by
  refine ⟨?_, fun E Q => ?run⟩
  case run =>
    simp only [cc0__attn_body_eq_skeleton]
    sl_unfold [cc0__attn_body_skel, k0_part1_eq_skeleton, k0_part1_skel, k0_part2_eq_skeleton, k0_part2_skel,
      k0_part3_eq_skeleton, k0_part3_skel, k0_part4_eq_skeleton, k0_part4_skel, k0_part5_eq_skeleton, k0_part5_skel,
      k0_part6_eq_skeleton, k0_part6_skel, k0_part7_eq_skeleton, k0_part7_skel, k0_part8_eq_skeleton, k0_part8_skel,
      k0_part9_eq_skeleton, k0_part9_skel]
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- The projection body: what it leaves in the output's buffer, and the run. -/
def projRun (c : Dev nD) (M0 : Memref sig .tc .vmem S8x1024 .f32) (h0 : M0.IsWhole)
    (M1 : Memref sig .tc .vmem S1024x1024 .f32) (h1 : M1.IsWhole) (M2 : Memref sig .tc .vmem S8x1024 .f32) (h2 : M2.IsWhole)
    (f0 : Bf (F := F) c M0) (f1 : Bf (F := F) c M1) (f2 : Bf (F := F) c M2) :
    { W : Bf (F := F) c M2 // ∀ (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc1__proj_body M0 h0 M1 h1 M2 h2) Q } := by
  refine ⟨?_, fun E Q => ?run⟩
  case run =>
    simp only [cc1__proj_body_eq_skeleton]
    sl_unfold [cc1__proj_body_skel]
    iintro ⟨H0, H1, H2, Hk⟩
    sl_exec!
    sl_step
    iapply Hk
    isplitl [H0]; · iexact H0
    isplitl [H1]; · iexact H1
    iexact H2

end Cert.KernelIdeal.Hand

end
-- ==== Proof.Head.lean ====
/-
  One head of the attention body, as a function of its five operands, and the body's four stores as four of these.
-/
module

public import proofs.«01_k».proof.Proof.Body

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The constant one as the body prints it. -/
abbrev one : F .f32 := Scalar.ofBits .f32 0x3F800000#32

/-- The threshold the first binary search ends at, over the match scores `m`. -/
def thr (m : FVec F S32x128 .f32) : FVec F S1x1 .f32 :=
  (Scf.fold (n := k0_t1_loop.trips) (fun _ s => (k0_pay11 m one s.1 s.2, k0_pay12 m one s.1 s.2)) (k0_pay7 one, k0_pay8 one)).1

/-- The index cutoff the second binary search ends at, among the entries of `m` at the threshold `t`. -/
def cut (m : FVec F S32x128 .f32) (t : FVec F S1x1 .f32) : FVec F S1x1 .f32 :=
  (Scf.fold (n := k0_t2_loop.trips) (fun _ s => (k0_pay20 m one t s.1 s.2, k0_pay21 m t s.1 s.2)) (k0_pay16 one, k0_pay17 one)).2

/-- The row a head writes: from the two rotations, its query row, its keys and its values. -/
def headOut (r1 r2 : FVec F S64x64 .f32) (q : FVec F S1x1x64 .f32) (k v : FVec F S4096x64 .f32) : FVec F S1x1x64 .f32 :=
  k0_pay23 (k0_pay22 (k0_pay4 r1 r2 k q) (k0_pay5 k q) (thr (k0_pay4 r1 r2 k q)) (cut (k0_pay4 r1 r2 k q) (thr (k0_pay4 r1 r2 k q)))) v

/-- Head `g`'s keys or values lie inside the four heads' block. -/
theorem inb_head (g : Fin 4) : ∀ a, (![4096 * g.val, 0] : Fin 2 → Nat) a + S4096x64.size a ≤ S16384x64.size a := by
  revert g; decide

/-- A head's query row and output row, in the whole arrays of rows. -/
abbrev rowRect (i : grid0.Coords) (g : Fin 4) : Rect S128x1x64 :=
  Rect.unit (s := S128x1x64) (k0_off1 i (BitVec.ofNat 32 g.val)) S1x1x64.size (k0_off1_inb i g)

/-- A head's keys or values, in the four heads' block. -/
abbrev headRect (g : Fin 4) : Rect S16384x64 := Rect.unit (s := S16384x64) ![4096 * g.val, 0] S4096x64.size (inb_head g)

/-- A whole rotation. -/
abbrev rotRect : Rect S64x64 := Rect.unit (s := S64x64) ![0, 0] S64x64.size inb_S64x64_S64x64_0_0

/-- The row head `g` writes at grid point `i`, from the contents of the operands' buffers. -/
def headRow (c : Dev nD) (i : grid0.Coords) (M1 : Memref sig .tc .vmem S128x1x64 .f32) (M2 M3 : Memref sig .tc .vmem S16384x64 .f32)
    (M4 M5 : Memref sig .tc .vmem S64x64 .f32)
    (f1 : Bf (F := F) c M1) (f2 : Bf (F := F) c M2) (f3 : Bf (F := F) c M3) (f4 : Bf (F := F) c M4) (f5 : Bf (F := F) c M5)
    (g : Fin 4) : FVec F S1x1x64 .f32 :=
  headOut (M4.view.readAt (Elt F) rotRect.toLoadRect f4) (M5.view.readAt (Elt F) rotRect.toLoadRect f5)
    (M1.view.readAt (Elt F) (rowRect i g).toLoadRect f1) (M2.view.readAt (Elt F) (headRect g).toLoadRect f2)
    (M3.view.readAt (Elt F) (headRect g).toLoadRect f3)

/-- What the attention body leaves in its output's buffer: what it found there, with the four heads' rows written. -/
theorem attnRun_val (c : Dev nD) (i : grid0.Coords)
    (M1 : Memref sig .tc .vmem S128x1x64 .f32) (h1 : M1.IsWhole) (M2 : Memref sig .tc .vmem S16384x64 .f32) (h2 : M2.IsWhole)
    (M3 : Memref sig .tc .vmem S16384x64 .f32) (h3 : M3.IsWhole) (M4 : Memref sig .tc .vmem S64x64 .f32) (h4 : M4.IsWhole)
    (M5 : Memref sig .tc .vmem S64x64 .f32) (h5 : M5.IsWhole) (M6 : Memref sig .tc .vmem S128x1x64 .f32) (h6 : M6.IsWhole)
    (f1 : Bf (F := F) c M1) (f2 : Bf (F := F) c M2) (f3 : Bf (F := F) c M3) (f4 : Bf (F := F) c M4) (f5 : Bf (F := F) c M5)
    (f6 : Bf (F := F) c M6) :
    (attnRun c i M1 h1 M2 h2 M3 h3 M4 h4 M5 h5 M6 h6 f1 f2 f3 f4 f5 f6).1
      = M6.view.writes (Elt F) f6
        [⟨rowRect i 3, headRow c i M1 M2 M3 M4 M5 f1 f2 f3 f4 f5 3⟩, ⟨rowRect i 2, headRow c i M1 M2 M3 M4 M5 f1 f2 f3 f4 f5 2⟩,
         ⟨rowRect i 1, headRow c i M1 M2 M3 M4 M5 f1 f2 f3 f4 f5 1⟩, ⟨rowRect i 0, headRow c i M1 M2 M3 M4 M5 f1 f2 f3 f4 f5 0⟩] := rfl

end Cert.KernelIdeal.Hand

end
-- ==== Proof.Region0.lean ====
/-
  The attention call's pipeline: what its output's buffer holds after each grid point, stated as a relation (a point
  writes four rows of a buffer written back once, at the end, so what it leaves depends on what it found), and the
  body's obligation for it.
-/
module

public import proofs.«01_k».proof.Proof.Head
public import proofs.«01_k».proof.Proof.Gen.KernelIdeal.Points
public import Idealize.ShloMosaic.Lib.Pipeline.FrameBody
public import Idealize.ShloMosaic.Lib.Pipeline.ValueKit.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

/-- No core owes another anything: no level is assigned. -/
abbrev L : GSem nD τ sig → Finset Unit := fun _ => ∅
/-- The level of nothing. -/
abbrev lv : GSem nD τ sig → Unit → ℕ := fun _ _ => 0
/-- The kernels call nothing. -/
abbrev 𝒱₀ : Variants := Variants.none

/-- Query row `r` of the 128 rows. -/
def qRow (q : FVec F S128x1x64 .f32) (r : Fin 128) : FVec F S1x1x64 .f32 := fun j => q (ix3 r 0 (j 2))

/-- Keys (or values) of row `r`: 4096 of the 524288. -/
def kvRows (k : FVec F S524288x64 .f32) (r : Fin 128) : FVec F S4096x64 .f32 :=
  fun j => k (ix2 ⟨4096 * r.val + (j 0).val, by have := (j 0).isLt; simp at this; omega⟩ (j 1))

/-- Output row `r`, from the whole operands. -/
def rowOut (r1 r2 : FVec F S64x64 .f32) (q : FVec F S128x1x64 .f32) (k v : FVec F S524288x64 .f32) (r : Fin 128) : FVec F S1x1x64 .f32 :=
  headOut r1 r2 (qRow q r) (kvRows k r) (kvRows v r)

/-- The whole output of the attention call, from its whole operands. -/
def attnOut (r1 r2 : FVec F S64x64 .f32) (q : FVec F S128x1x64 .f32) (k v : FVec F S524288x64 .f32) : FVec F S128x1x64 .f32 :=
  fun j => rowOut r1 r2 q k v (j 0) (ix3 0 0 (j 2))

variable (V : (c : Dev nD) → (b : Ref sig .tc) → Buf (Elt F) ((c : Thread nD τ).loc b))

/-- The attention call's output at the valuation `V`. -/
def attnV (c : Dev nD) : FVec F S128x1x64 .f32 :=
  attnOut (V c main_arg3) (V c main_arg4) (V c main_v0) (V c main_v1) (V c main_v2)

/-- The call's proof data: each input's buffer is left as found; of the output's, the four rows of the point are
    replaced. -/
def rdat0 (c : Dev nD) : RDat τ (Elt F) Unit ℕ UU ℕ cfg0 c where
  A w := V c (Pipeline.arrRef spec0 w)
  after := fun
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun t Y X => ∀ j : S128x1x64.Idx, X j = if (j 0).val / 4 = t.val then attnV V c j else Y j
  Φ _ := Pipeline.scopedRest (Ix := Unit) (Name := ℕ) (U := UU) (Lvl := ℕ) (Val := Elt F) spec0 c
  q _ := fullShare
  owed _ := 0

/-- The block indices of the windows over the grid. -/
theorem idx0_0 : ∀ t : Fin cfg0.N, win0_0.index t = ![0, 0, 0] := (by decide +kernel : ∀ t : Fin grid0.N, _)
/-- The keys' window moves with the grid, four heads a point. -/
theorem idx0_1 : ∀ t : Fin cfg0.N, win0_1.index t = ![t.val, 0] := (by decide +kernel : ∀ t : Fin grid0.N, _)
/-- So does the values'. -/
theorem idx0_2 : ∀ t : Fin cfg0.N, win0_2.index t = ![t.val, 0] := (by decide +kernel : ∀ t : Fin grid0.N, _)
/-- The first rotation's window stays. -/
theorem idx0_3 : ∀ t : Fin cfg0.N, win0_3.index t = ![0, 0] := (by decide +kernel : ∀ t : Fin grid0.N, _)
/-- The second rotation's window stays. -/
theorem idx0_4 : ∀ t : Fin cfg0.N, win0_4.index t = ![0, 0] := (by decide +kernel : ∀ t : Fin grid0.N, _)
/-- The output's window stays. -/
theorem idx0_5 : ∀ t : Fin cfg0.N, win0_5.index t = ![0, 0, 0] := (by decide +kernel : ∀ t : Fin grid0.N, _)

/-- What the query window's buffer holds whenever the body runs: the array of rows. -/
theorem finds0_0 (c : Dev nD) (t : Fin cfg0.N) (Y : S128x1x64.Idx → Elt F .f32) (h : (rdat0 V c).Finds 0 t Y) : Y = V c main_v0 := by
  obtain ⟨d, rfl⟩ := (rdat0 V c).finds_in_eq_fetched 0 rfl (fun _ _ _ => rfl) (fun _ _ _ h => h) t Y h
  funext j
  refine ((cfg0.win 0).fill_xinj (cfg0.grid.coords t) d ((rdat0 V c).blockOf 0 t) j).trans ?_
  unfold RDat.blockOf
  blk_ext [rdat0, idx0_0 t]

/-- The keys window's buffer: the point's 16384 rows of keys. -/
theorem finds0_1 (c : Dev nD) (t : Fin cfg0.N) (Y : S16384x64.Idx → Elt F .f32) (h : (rdat0 V c).Finds 1 t Y) (j : S16384x64.Idx)
    (i : S524288x64.Idx) (h0 : (i 0).val = 16384 * t.val + (j 0).val) (h1 : (i 1).val = (j 1).val) : Y j = V c main_v1 i := by
  obtain ⟨d, rfl⟩ := (rdat0 V c).finds_in_eq_fetched 1 rfl (fun _ _ _ => rfl) (fun _ _ _ h => h) t Y h
  refine ((cfg0.win 1).fill_xinj (cfg0.grid.coords t) d ((rdat0 V c).blockOf 1 t) j).trans ?_
  unfold RDat.blockOf
  blk_ext [rdat0, idx0_1 t]

/-- The values window's buffer: the point's 16384 rows of values. -/
theorem finds0_2 (c : Dev nD) (t : Fin cfg0.N) (Y : S16384x64.Idx → Elt F .f32) (h : (rdat0 V c).Finds 2 t Y) (j : S16384x64.Idx)
    (i : S524288x64.Idx) (h0 : (i 0).val = 16384 * t.val + (j 0).val) (h1 : (i 1).val = (j 1).val) : Y j = V c main_v2 i := by
  obtain ⟨d, rfl⟩ := (rdat0 V c).finds_in_eq_fetched 2 rfl (fun _ _ _ => rfl) (fun _ _ _ h => h) t Y h
  refine ((cfg0.win 2).fill_xinj (cfg0.grid.coords t) d ((rdat0 V c).blockOf 2 t) j).trans ?_
  unfold RDat.blockOf
  blk_ext [rdat0, idx0_2 t]

/-- The first rotation's buffer holds it whole. -/
theorem finds0_3 (c : Dev nD) (t : Fin cfg0.N) (Y : S64x64.Idx → Elt F .f32) (h : (rdat0 V c).Finds 3 t Y) : Y = V c main_arg3 := by
  obtain ⟨d, rfl⟩ := (rdat0 V c).finds_in_eq_fetched 3 rfl (fun _ _ _ => rfl) (fun _ _ _ h => h) t Y h
  funext j
  refine ((cfg0.win 3).fill_xinj (cfg0.grid.coords t) d ((rdat0 V c).blockOf 3 t) j).trans ?_
  unfold RDat.blockOf
  blk_ext [rdat0, idx0_3 t]

/-- The second rotation's buffer holds it whole. -/
theorem finds0_4 (c : Dev nD) (t : Fin cfg0.N) (Y : S64x64.Idx → Elt F .f32) (h : (rdat0 V c).Finds 4 t Y) : Y = V c main_arg4 := by
  obtain ⟨d, rfl⟩ := (rdat0 V c).finds_in_eq_fetched 4 rfl (fun _ _ _ => rfl) (fun _ _ _ h => h) t Y h
  funext j
  refine ((cfg0.win 4).fill_xinj (cfg0.grid.coords t) d ((rdat0 V c).blockOf 4 t) j).trans ?_
  unfold RDat.blockOf
  blk_ext [rdat0, idx0_4 t]

/-- The row a head reads and writes at grid point `t`. -/
theorem off_eq : ∀ (t : Fin cfg0.N) (g : Fin 4), k0_off1 (cfg0.grid.coords t) (BitVec.ofNat 32 g.val) = ![4 * t.val + g.val, 0, 0] :=
  (by decide +kernel : ∀ (t : Fin grid0.N) (g : Fin 4), k0_off1 (grid0.coords t) (BitVec.ofNat 32 g.val) = ![4 * t.val + g.val, 0, 0])

/-- Row `4t + g` of the 128. -/
abbrev row (t : Fin cfg0.N) (g : Fin 4) : Fin 128 := ⟨4 * t.val + g.val, by have : t.val < 32 := t.isLt; omega⟩

/-- The row head `g` writes at point `t`, over buffers holding what the pipeline put there, is output row `4t + g`. -/
theorem headRow_eq (c : Dev nD) (t : Fin cfg0.N) (M1 : Memref sig .tc .vmem S128x1x64 .f32) (M2 M3 : Memref sig .tc .vmem S16384x64 .f32)
    (M4 M5 : Memref sig .tc .vmem S64x64 .f32)
    (f1 : Bf (F := F) c M1) (f2 : Bf (F := F) c M2) (f3 : Bf (F := F) c M3) (f4 : Bf (F := F) c M4) (f5 : Bf (F := F) c M5)
    (h1 : (rdat0 V c).Finds 0 t (M1.view.read (Elt F) f1)) (h2 : (rdat0 V c).Finds 1 t (M2.view.read (Elt F) f2))
    (h3 : (rdat0 V c).Finds 2 t (M3.view.read (Elt F) f3)) (h4 : (rdat0 V c).Finds 3 t (M4.view.read (Elt F) f4))
    (h5 : (rdat0 V c).Finds 4 t (M5.view.read (Elt F) f5)) (g : Fin 4) :
    headRow c (cfg0.grid.coords t) M1 M2 M3 M4 M5 f1 f2 f3 f4 f5 g
      = rowOut (V c main_arg3) (V c main_arg4) (V c main_v0) (V c main_v1) (V c main_v2) (row t g) := by
  have e1 := finds0_0 V c t _ h1
  have e2 := finds0_1 V c t _ h2
  have e3 := finds0_2 V c t _ h3
  have e4 := finds0_3 V c t _ h4
  have e5 := finds0_4 V c t _ h5
  unfold headRow rowOut
  congr 1
  · rw [← e4]; funext x; rw [View.readAt_apply]; congr 1; funext a; apply Fin.ext; fin_cases a <;> simp
  · rw [← e5]; funext x; rw [View.readAt_apply]; congr 1; funext a; apply Fin.ext; fin_cases a <;> simp
  · rw [← e1]; funext x; rw [View.readAt_apply]; unfold qRow; congr 1; funext a; apply Fin.ext
    fin_cases a <;> simp
    · exact congrFun (off_eq t g) 0
    · exact congrFun (off_eq t g) 1
    · exact congrFun (off_eq t g) 2
  · funext x; rw [View.readAt_apply]; refine e2 _ _ ?_ ?_ <;> simp; omega
  · funext x; rw [View.readAt_apply]; refine e3 _ _ ?_ ?_ <;> simp; omega

/-- A row of the output lies in head `g`'s written row at point `t` exactly when it is row `4t + g`. -/
theorem mem_rowRect (t : Fin cfg0.N) (g : Fin 4) (j : S128x1x64.Idx) :
    j ∈ (rowRect (cfg0.grid.coords t) g).set ↔ (j 0).val = 4 * t.val + g.val := by
  have o := off_eq t g
  rw [Rect.mem_set_unit]
  have h1 : (j 1).val < 1 := (j 1).isLt
  have h2 : (j 2).val < 64 := (j 2).isLt
  rw [o]
  constructor
  · intro h; have := h 0; simp at this; omega
  · intro h a; fin_cases a <;> simp <;> omega

/-- After the body at point `t` over what the pipeline put in the inputs, the output window reads `attnV` on rows
    `4t … 4t + 3` and what it read before everywhere else. -/
theorem attn_after (c : Dev nD) (t : Fin cfg0.N) (M1 : Memref sig .tc .vmem S128x1x64 .f32) (hM1 : M1.IsWhole)
    (M2 : Memref sig .tc .vmem S16384x64 .f32) (hM2 : M2.IsWhole) (M3 : Memref sig .tc .vmem S16384x64 .f32) (hM3 : M3.IsWhole)
    (M4 : Memref sig .tc .vmem S64x64 .f32) (hM4 : M4.IsWhole) (M5 : Memref sig .tc .vmem S64x64 .f32) (hM5 : M5.IsWhole)
    (M6 : Memref sig .tc .vmem S128x1x64 .f32) (hM6 : M6.IsWhole)
    (f1 : Bf (F := F) c M1) (f2 : Bf (F := F) c M2) (f3 : Bf (F := F) c M3) (f4 : Bf (F := F) c M4) (f5 : Bf (F := F) c M5)
    (f6 : Bf (F := F) c M6)
    (h1 : (rdat0 V c).Finds 0 t (M1.view.read (Elt F) f1)) (h2 : (rdat0 V c).Finds 1 t (M2.view.read (Elt F) f2))
    (h3 : (rdat0 V c).Finds 2 t (M3.view.read (Elt F) f3)) (h4 : (rdat0 V c).Finds 3 t (M4.view.read (Elt F) f4))
    (h5 : (rdat0 V c).Finds 4 t (M5.view.read (Elt F) f5)) (j : S128x1x64.Idx) :
    M6.view.read (Elt F) (attnRun c (cfg0.grid.coords t) M1 hM1 M2 hM2 M3 hM3 M4 hM4 M5 hM5 M6 hM6 f1 f2 f3 f4 f5 f6).1 j
      = if (j 0).val / 4 = t.val then attnV V c j else M6.view.read (Elt F) f6 j := by
  have hp : ∀ g x, headRow c (cfg0.grid.coords t) M1 M2 M3 M4 M5 f1 f2 f3 f4 f5 g x
      = attnV V c ((rowRect (cfg0.grid.coords t) g).emb x) := fun g x => by
    rw [headRow_eq V c t M1 M2 M3 M4 M5 f1 f2 f3 f4 f5 h1 h2 h3 h4 h5 g]
    have x0 : (x 0).val < 1 := (x 0).isLt
    have x1 : (x 1).val < 1 := (x 1).isLt
    have hv : ∀ a, (((rowRect (cfg0.grid.coords t) g).emb x) a).val
        = k0_off1 (cfg0.grid.coords t) (BitVec.ofNat 32 g.val) a + 1 * (x a).val := fun _ => rfl
    have e0 : ((rowRect (cfg0.grid.coords t) g).emb x) 0 = row t g :=
      Fin.ext ((hv 0).trans (by rw [off_eq]; simp))
    have e2 : (ix3 0 0 (((rowRect (cfg0.grid.coords t) g).emb x) 2) : S1x1x64.Idx) = x := by
      funext a; apply Fin.ext; fin_cases a
      · simp
      · simp
      · exact (hv 2).trans (by rw [off_eq]; simp)
    unfold attnV attnOut
    rw [e0, e2]
  rw [attnRun_val]
  have hmem := mem_rowRect t
  split
  next hj =>
    refine View.read_writes_apply_of_pieces (Val := Elt F) (e := .f32) _ _ (attnV V c) _ ?_ j ?_
    · intro p hp'
      simp only [List.mem_cons, List.not_mem_nil, _root_.or_false] at hp'
      rcases hp' with rfl | rfl | rfl | rfl <;> exact hp _
    · have : (j 0).val = 4 * t.val + 3 ∨ (j 0).val = 4 * t.val + 2 ∨ (j 0).val = 4 * t.val + 1 ∨ (j 0).val = 4 * t.val + 0 := by omega
      rcases this with h | h | h | h
      · exact ⟨_, List.mem_cons_self, (hmem 3 j).2 h⟩
      · exact ⟨_, List.mem_cons_of_mem _ List.mem_cons_self, (hmem 2 j).2 h⟩
      · exact ⟨_, List.mem_cons_of_mem _ (List.mem_cons_of_mem _ List.mem_cons_self), (hmem 1 j).2 h⟩
      · exact ⟨_, List.mem_cons_of_mem _ (List.mem_cons_of_mem _ (List.mem_cons_of_mem _ List.mem_cons_self)), (hmem 0 j).2 h⟩
  next hj =>
    refine View.read_writes_apply_of_forall_not_mem _ _ _ _ ?_
    intro p hp'
    simp only [List.mem_cons, List.not_mem_nil, _root_.or_false] at hp'
    rcases hp' with rfl | rfl | rfl | rfl
    · exact fun h => hj (by have := (hmem 3 j).1 h; simp at this; omega)
    · exact fun h => hj (by have := (hmem 2 j).1 h; simp at this; omega)
    · exact fun h => hj (by have := (hmem 1 j).1 h; simp at this; omega)
    · exact fun h => hj (by have := (hmem 0 j).1 h; simp at this; omega)

/-- Owning a whole memref is holding its buffer at something it reads as the given contents. -/
theorem owns_of_isWhole (c : Dev nD) {sp : Space} {S : Shape} {e : EltTy} {M : Memref sig .tc sp S e} (h : M.IsWhole)
    (X : S.Idx → Elt F e) :
    (owns (c : Thread nD τ) M fullShare X : sProp 𝕄) = iprop(∃ f : Bf (F := F) c M, ⌜M.view.read (Elt F) f = X⌝ ∗ pt c M f) := by
  unfold owns pt; rw [h.set_eq_univ]

set_option backward.isDefEq.respectTransparency.types false in
/-- The body, on whatever the pipeline may have put in its six buffers, returns the inputs as they were and the output
    as the data says. -/
theorem body0 (c : Dev nD) : (rdat0 V c).BodyObligation (defs₀ (F := F)) 𝒱₀ () Set.univ := fun t Y hY => by
  rw [bigSep_W0, bigSep_W0]
  simp only [owns_of_isWhole c (hstage0_0 _), owns_of_isWhole c (hstage0_1 _), owns_of_isWhole c (hstage0_2 _),
    owns_of_isWhole c (hstage0_3 _), owns_of_isWhole c (hstage0_4 _), owns_of_isWhole c (hstage0_5 _)]
  rw [show (rdat0 V c).owesAt () t.succ = (rdat0 V c).owesAt () t.castSucc from rfl,
    show (rdat0 V c).Φ t.succ = (rdat0 V c).Φ t.castSucc from rfl]
  have h0 := hY 0; have h1 := hY 1; have h2 := hY 2; have h3 := hY 3; have h4 := hY 4
  iintro ⟨HΦ, Howes, ⟨%f0, %hf0, H0⟩, ⟨%f1, %hf1, H1⟩, ⟨%f2, %hf2, H2⟩, ⟨%f3, %hf3, H3⟩, ⟨%f4, %hf4, H4⟩, ⟨%f5, %hf5, H5⟩⟩
  unfold defs₀; rw [Defs.onTc_tc]
  rw [← hf0] at h0; rw [← hf1] at h1; rw [← hf2] at h2; rw [← hf3] at h3; rw [← hf4] at h4
  iapply ((attnRun c (cfg0.grid.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) f0 f1 f2 f3 f4 f5).2 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iexists (Y 0); isplitr; · ipureintro; rfl
    iexists _; isplitr; swap; · iexact H0
    ipureintro; exact hf0
  isplitl [H1]
  · iexists (Y 1); isplitr; · ipureintro; rfl
    iexists _; isplitr; swap; · iexact H1
    ipureintro; exact hf1
  isplitl [H2]
  · iexists (Y 2); isplitr; · ipureintro; rfl
    iexists _; isplitr; swap; · iexact H2
    ipureintro; exact hf2
  isplitl [H3]
  · iexists (Y 3); isplitr; · ipureintro; rfl
    iexists _; isplitr; swap; · iexact H3
    ipureintro; exact hf3
  isplitl [H4]
  · iexists (Y 4); isplitr; · ipureintro; rfl
    iexists _; isplitr; swap; · iexact H4
    ipureintro; exact hf4
  · iexists _; isplitr; swap
    · iexists _; isplitr; swap; · iexact H5
      ipureintro; rfl
    ipureintro; intro j
    exact (attn_after V c t (st0_0 t) _ (st0_1 t) _ (st0_2 t) _ (st0_3 t) _ (st0_4 t) _ (st0_5 t) _ f0 f1 f2 f3 f4 f5 h0 h1 h2 h3 h4 j).trans
      (by rw [hf5])

/-- The output's buffer after point `n`: rows below `4 (n + 1)` hold `attnV`. -/
theorem leaves0_5 (c : Dev nD) : ∀ (n : ℕ) (hn : n < cfg0.N) (X : S128x1x64.Idx → Elt F .f32), (rdat0 V c).Leaves 5 ⟨n, hn⟩ X →
    ∀ j : S128x1x64.Idx, (j 0).val < 4 * (n + 1) → X j = attnV V c j := by
  intro n
  induction n with
  | zero =>
    rintro hn X ⟨Y, -, hX⟩ j hj
    refine (hX j).trans (if_pos ?_)
    show (j 0).val / 4 = 0
    omega
  | succ n ih =>
    rintro hn X ⟨Y, hY, hX⟩ j hj
    refine (hX j).trans ?_
    split
    · rfl
    next h =>
      have h' : ¬ (j 0).val / 4 = n + 1 := h
      have hN : n + 1 < 32 := hn
      rcases (RDat.finds_of_pos (rdat0 V c) (w := 5) (t := ⟨n + 1, hn⟩) rfl (by simp) Y).1 hY with hf | hl
      · have := (flush0_5 _).1 hf
        simp at this
        omega
      · exact ih (Nat.lt_of_succ_lt hn) Y hl j (by omega)

/-- The output array after the region is `attnV`. -/
theorem arrAt0_5 (c : Dev nD) (G : Buf (Elt F) ((c : Thread nD τ).loc main_v3)) (h : (rdat0 V c).ArrAt 5 cfg0.N G) : G = attnV V c := by
  have hN : cfg0.N = 31 + 1 := N_0
  rw [hN] at h
  have hlt : 31 < cfg0.N := by rw [hN]; omega
  unfold RDat.ArrAt at h
  rw [dif_pos hlt, if_pos ((flush0_5 ⟨31, hlt⟩).2 rfl)] at h
  obtain ⟨G₀, X, -, hX, rfl⟩ := h
  have hx := leaves0_5 V c 31 hlt X hX
  have e : ∀ x : S128x1x64.Idx, ((cfg0.win 5).blk ⟨31, hlt⟩).view.emb x = x := fun x => by
    have hv : ∀ a, ((((cfg0.win 5).blk ⟨31, hlt⟩).view.emb x) a).val = win0_5.index ⟨31, hlt⟩ a * S128x1x64.size a + 1 * (x a).val :=
      fun _ => rfl
    funext a; apply Fin.ext
    refine (hv a).trans ?_
    rw [idx0_5]
    fin_cases a <;> simp
  funext i
  have hw := View.write_emb_of_mem (v := ((cfg0.win 5).blk ⟨31, hlt⟩).view) (Val := Elt F) G₀ ((cfg0.win 5).cut (cfg0.grid.coords ⟨31, hlt⟩) X) (Finset.mem_univ i)
  rw [e i] at hw
  refine hw.trans ((hx i ?_))
  have : (i 0).val < 128 := (i 0).isLt
  omega

end Cert.KernelIdeal.Hand

end
-- ==== Proof.Region1.lean ====
module

public import proofs.«01_k».proof.Proof.Region0

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal.Gen

variable {F : FTy → Type} [FloatOps F]

local notation "𝕄" => MT nD τ sig Unit (Elt F) ℕ UU ℕ

variable (V : (c : Dev nD) → (b : Ref sig .tc) → Buf (Elt F) ((c : Thread nD τ).loc b))

/-- What the projection leaves in its output array, from the contents the region finds. -/
def projV (c : Dev nD) : FVec F S8x1024 .f32 := k1_pay1 (V c main_v4) (V c main_arg5)

/-- The projection's proof data: the inputs stay, the output ends at `projV`. -/
def rdat1 (c : Dev nD) : RDat τ (Elt F) Unit ℕ UU ℕ cfg1 c where
  A w := V c (Pipeline.arrRef spec1 w)
  after := fun
    | ⟨0, _⟩ => fun _ Y X => X = Y
    | ⟨1, _⟩ => fun _ Y X => X = Y
    | ⟨2, _⟩ => fun _ _ X => X = projV V c
  Φ _ := Pipeline.scopedRest (Ix := Unit) (Name := ℕ) (U := UU) (Lvl := ℕ) (Val := Elt F) spec1 c
  q _ := fullShare
  owed _ := 0

/-- Every window of the projection is at its only block. -/
theorem idx1 : (∀ t : Fin cfg1.N, win1_0.index t = ![0, 0]) ∧ (∀ t : Fin cfg1.N, win1_1.index t = ![0, 0])
    ∧ ∀ t : Fin cfg1.N, win1_2.index t = ![0, 0] := by
  refine ⟨fun t => ?_, fun t => ?_, fun t => ?_⟩ <;> funext a <;> fin_cases a <;> rfl

/-- The first operand's buffer holds its whole array when the body runs. -/
theorem finds1_0 (c : Dev nD) (t : Fin cfg1.N) (Y : S8x1024.Idx → Elt F .f32) (h : (rdat1 V c).Finds 0 t Y) : Y = V c main_v4 := by
  obtain ⟨d, rfl⟩ := (RDat.finds_of_fetch (rdat1 V c) (fetch1_0 t) Y).1 h
  funext j
  refine ((cfg1.win 0).fill_xinj (cfg1.grid.coords t) d ((rdat1 V c).blockOf 0 t) j).trans ?_
  unfold RDat.blockOf
  blk_ext [rdat1, idx1.1 t]

/-- The second operand's buffer holds its whole array when the body runs. -/
theorem finds1_1 (c : Dev nD) (t : Fin cfg1.N) (Y : S1024x1024.Idx → Elt F .f32) (h : (rdat1 V c).Finds 1 t Y) : Y = V c main_arg5 := by
  obtain ⟨d, rfl⟩ := (RDat.finds_of_fetch (rdat1 V c) (fetch1_1 t) Y).1 h
  funext j
  refine ((cfg1.win 1).fill_xinj (cfg1.grid.coords t) d ((rdat1 V c).blockOf 1 t) j).trans ?_
  unfold RDat.blockOf
  blk_ext [rdat1, idx1.2.1 t]

/-- The whole of an operand, as the body reads and writes it. -/
abbrev rectA : Rect S8x1024 := Rect.unit (s := S8x1024) ![0, 0] S8x1024.size inb_S8x1024_S8x1024_0_0
/-- The whole of the weights. -/
abbrev rectB : Rect S1024x1024 := Rect.unit (s := S1024x1024) ![0, 0] S1024x1024.size inb_S1024x1024_S1024x1024_0_0

/-- After the body over the two arrays, the output window reads `projV`. -/
theorem proj_after (c : Dev nD) (t : Fin cfg1.N) (M0 : Memref sig .tc .vmem S8x1024 .f32) (hM0 : M0.IsWhole)
    (M1 : Memref sig .tc .vmem S1024x1024 .f32) (hM1 : M1.IsWhole) (M2 : Memref sig .tc .vmem S8x1024 .f32) (hM2 : M2.IsWhole)
    (f0 : Bf (F := F) c M0) (f1 : Bf (F := F) c M1) (f2 : Bf (F := F) c M2)
    (h0 : (rdat1 V c).Finds 0 t (M0.view.read (Elt F) f0)) (h1 : (rdat1 V c).Finds 1 t (M1.view.read (Elt F) f1)) :
    M2.view.read (Elt F) (projRun c M0 hM0 M1 hM1 M2 hM2 f0 f1 f2).1 = projV V c := by
  have e0 := finds1_0 V c t _ h0
  have e1 := finds1_1 V c t _ h1
  have hv : (projRun c M0 hM0 M1 hM1 M2 hM2 f0 f1 f2).1 = M2.view.writes (Elt F) M2.view.junk
      [⟨rectA, k1_pay1 (M0.view.readAt (Elt F) rectA.toLoadRect f0) (M1.view.readAt (Elt F) rectB.toLoadRect f1)⟩] := by
    unfold projRun; dsimp only; unfold projRun.sl.H2_1; rfl
  have r0 : M0.view.readAt (Elt F) rectA.toLoadRect f0 = V c main_v4 := by
    rw [← e0]; funext x; rw [View.readAt_apply]; congr 1; funext a; apply Fin.ext; fin_cases a <;> simp
  have r1 : M1.view.readAt (Elt F) rectB.toLoadRect f1 = V c main_arg5 := by
    rw [← e1]; funext x; rw [View.readAt_apply]; congr 1; funext a; apply Fin.ext; fin_cases a <;> simp
  rw [hv, r0, r1]
  have he : ∀ x : S8x1024.Idx, rectA.emb x = x := fun x => by
    funext a; apply Fin.ext
    refine (show (rectA.emb x a).val = (![0, 0] : Fin 2 → ℕ) a + 1 * (x a).val from rfl).trans ?_
    fin_cases a <;> simp
  funext y
  have hy : y ∈ rectA.set := by
    rw [Rect.mem_set_unit]; intro a
    have := (y a).isLt
    fin_cases a <;> simpa using this
  refine View.read_writes_apply_of_pieces (Val := Elt F) (e := .f32) _ _ (projV V c) _ ?_ y ⟨_, List.mem_cons_self, hy⟩
  intro p hp x
  rw [List.mem_singleton] at hp
  subst hp
  exact congrArg (projV V c) (he x).symm

set_option backward.isDefEq.respectTransparency.types false in
/-- The body, on whatever the pipeline may have put in its three buffers, returns the inputs as they were and the output
    at `projV`. -/
theorem body1 (c : Dev nD) : (rdat1 V c).BodyObligation (defs₀ (F := F)) 𝒱₀ () Set.univ := fun t Y hY => by
  rw [bigSep_W1, bigSep_W1]
  simp only [owns_of_isWhole c (hstage1_0 _), owns_of_isWhole c (hstage1_1 _), owns_of_isWhole c (hstage1_2 _)]
  rw [show (rdat1 V c).owesAt () t.succ = (rdat1 V c).owesAt () t.castSucc from rfl,
    show (rdat1 V c).Φ t.succ = (rdat1 V c).Φ t.castSucc from rfl]
  have h0 := hY 0; have h1 := hY 1
  iintro ⟨HΦ, Howes, ⟨%f0, %hf0, H0⟩, ⟨%f1, %hf1, H1⟩, ⟨%f2, %hf2, H2⟩⟩
  unfold defs₀; rw [Defs.onTc_tc]
  rw [← hf0] at h0; rw [← hf1] at h1
  iapply ((projRun c (st1_0 t) (hstage1_0 0) (st1_1 t) (hstage1_1 0) (st1_2 t) (hstage1_2 0) f0 f1 f2).2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]
  · iexists (Y 0); isplitr; · ipureintro; rfl
    iexists _; isplitr; swap; · iexact H0
    ipureintro; exact hf0
  isplitl [H1]
  · iexists (Y 1); isplitr; · ipureintro; rfl
    iexists _; isplitr; swap; · iexact H1
    ipureintro; exact hf1
  · iexists _; isplitr; swap
    · iexists _; isplitr; swap; · iexact H2
      ipureintro; rfl
    ipureintro
    exact proj_after V c t (st1_0 t) _ (st1_1 t) _ (st1_2 t) _ f0 f1 f2 h0 h1

/-- The output array after the region is `projV`. -/
theorem arrAt1_2 (c : Dev nD) (G : Buf (Elt F) ((c : Thread nD τ).loc main_v5)) (h : (rdat1 V c).ArrAt 2 cfg1.N G) : G = projV V c := by
  have hN : cfg1.N = 0 + 1 := rfl
  rw [hN] at h
  have hlt : 0 < cfg1.N := by rw [hN]; omega
  unfold RDat.ArrAt at h
  rw [dif_pos hlt, if_pos (flush1_2 ⟨0, hlt⟩)] at h
  obtain ⟨G₀, X, -, ⟨Y, -, hX⟩, rfl⟩ := h
  have hx : X = projV V c := hX
  have e : ∀ x : S8x1024.Idx, ((cfg1.win 2).blk ⟨0, hlt⟩).view.emb x = x := fun x => by
    have hv : ∀ a, ((((cfg1.win 2).blk ⟨0, hlt⟩).view.emb x) a).val = win1_2.index ⟨0, hlt⟩ a * S8x1024.size a + 1 * (x a).val :=
      fun _ => rfl
    funext a; apply Fin.ext
    refine (hv a).trans ?_
    rw [idx1.2.2]
    fin_cases a <;> simp
  funext i
  have hw := View.write_emb_of_mem (v := ((cfg1.win 2).blk ⟨0, hlt⟩).view) (Val := Elt F) G₀ ((cfg1.win 2).cut (cfg1.grid.coords ⟨0, hlt⟩) X) (Finset.mem_univ i)
  rw [e i] at hw
  exact hw.trans (congrFun hx i)

end Cert.KernelIdeal.Hand

end
-- ==== Proof.Launch.lean ====
module

public import proofs.«01_k».proof.Proof.Region1
public import proofs.«01_k».proof.Proof.Gen.KernelIdeal.Regions

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal.Gen

variable {F : FTy → Type} [FloatOps F]

local notation "𝕄" => MT nD τ sig Unit (Elt F) ℕ UU ℕ

/-- Contents of every buffer a core names. -/
abbrev Vals : Type := (c : Dev nD) → (b : Ref sig .tc) → Buf (Elt F) ((c : Thread nD τ).loc b)

variable (V W : Vals (F := F))

/-- The two regions' proof data, region 0 entered at `V`, region 1 at `W`. -/
def rdats : (p : Fin 2) → (c : Dev nD) → RDat τ (Elt F) Unit ℕ UU ℕ (Pipeline.pin (pcfgs (F := F)) adm p) c
  | ⟨0, _⟩ => fun c => rdat0 V c
  | ⟨1, _⟩ => fun c => rdat1 W c

/-- What a core owes nobody, at whatever record. -/
abbrev nowt (c : Dev nD) : sProp 𝕄 := iprop(∃ S, owes (c : Thread nD τ) (0 : CellTallies nD τ sig Unit) S)

set_option backward.isDefEq.respectTransparency.types false in
/-- Leaving a region: its arrays, each at something it may hold at the end, and the buffers it never saw make up the
    core's unscoped buffers at `Vp`, once `Vp` is the only thing each array may hold. -/
theorem unscoped_of_arraysAt {p : Fin 2} (hw : Pipeline.WinFacts (Pipeline.pin (pcfgs (F := F)) adm p).spec)
    (harr : ∀ w, ((Pipeline.pin (pcfgs (F := F)) adm p).spec w).arr.IsWhole) (c : Dev nD) (hshare : ∀ w, (rdats V W p c).share w = fullShare)
    (V₀ Vp : (b : Ref sig .tc) → Buf (Elt F) ((c : Thread nD τ).loc b)) (n : ℕ)
    (hF : ∀ w G, (rdats V W p c).ArrAt w n G → G = Vp (Pipeline.arrRef (Pipeline.pin (pcfgs (F := F)) adm p).spec w))
    (hrest : ∀ b, b ∉ Finset.univ.image (Pipeline.arrRef (Pipeline.pin (pcfgs (F := F)) adm p).spec) → Vp b = V₀ b) :
    iprop((rdats V W p c).arraysAt n ∗ Pipeline.unscopedRest (Ix := Unit) (Name := ℕ) (U := UU) (Lvl := ℕ) (Pipeline.pin (pcfgs (F := F)) adm p).spec c V₀)
      ⊢ (unscopedBufs c Vp : sProp 𝕄) := by
  rw [Pipeline.unscopedBufs_split (Pipeline.pin (pcfgs (F := F)) adm) p hw.arr_unscoped hw.arr_inj c Vp]
  unfold RDat.arraysAt
  refine sep_mono (bigSep_mono fun w _ => ?_) (Entails.of_eq ?_)
  · rw [(harr w).set_eq_univ, hshare]
    refine (show (_ : sProp 𝕄) ⊢ _ from ?_)
    iintro ⟨%G, %hG, H⟩
    rw [hF w G hG]
    iexact H
  · unfold Pipeline.unscopedRest
    exact bigSep_congr fun b hb => by rw [hrest b (Finset.mem_sdiff.mp hb).2]

set_option backward.isDefEq.respectTransparency.types false in
/-- Region 0: entered with every unscoped buffer at `V`, left with them at `Vp`, which is `V` but for the region's output. -/
def reg0 (Vp : Vals (F := F)) (hout : ∀ c, Vp c main_v3 = attnV V c)
    (hne : ∀ c (b : Ref sig .tc), b ≠ main_v3 → Vp c b = V c b) :
    RDat.RegionSeg (pcfgs (F := F)) adm (rdats V W) () defs₀ 𝒱₀ L lv 0 where
  win := launch0.win.to₀
  block_pos := launch0.block_pos
  stage_whole := launch0.stage_whole
  K := PEmpty
  osem k := k.elim
  ho := Pipeline.OwnSemFacts.none _
  hbody c := body0 V c
  hwaits := RDat.hwaits_of_owed_zero _ _ _ _ L lv 0 fun _ _ => rfl
  pre c := iprop(unscopedBufs c (V c) ∗ nowt c)
  post c := iprop(unscopedBufs c (Vp c) ∗ nowt c)
  X _ := BI.emp
  Y _ := BI.emp
  Z c := Pipeline.unscopedRest (Ix := Unit) (Name := ℕ) (U := UU) (Lvl := ℕ) spec0 c (V c)
  hentry c := by
    rw [Pipeline.ownSems0_none]
    have hsplit := RDat.arrays_of_unscopedBufs (p := 0) (pcfgs (F := F)) adm (rdats V W) launch0.win launch0.arr_whole c
      ((rdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%S, HO⟩; iexists S; isplitr; · ipureintro; exact fun _ _ => Or.inl trivial
      iexact HO
    isplitr; · iempintro
    iexact Hrest
  hin c := by
    rw [show (rdats V W 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats V W 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := unscoped_of_arraysAt V W (p := 0) launch0.win launch0.arr_whole c
      ((rdats V W 0 c).share_full fun _ => rfl) (V c) (Vp c) cfg0.N (fun w => by
      fin_cases w
      · exact fun G hG => (cast (congrFun (RDat.ArrAt_in (rdat0 V c) 0 rfl _) G) hG : G = _).trans (hne c main_v0 (by decide)).symm
      · exact fun G hG => (cast (congrFun (RDat.ArrAt_in (rdat0 V c) 1 rfl _) G) hG : G = _).trans (hne c main_v1 (by decide)).symm
      · exact fun G hG => (cast (congrFun (RDat.ArrAt_in (rdat0 V c) 2 rfl _) G) hG : G = _).trans (hne c main_v2 (by decide)).symm
      · exact fun G hG => (cast (congrFun (RDat.ArrAt_in (rdat0 V c) 3 rfl _) G) hG : G = _).trans (hne c main_arg3 (by decide)).symm
      · exact fun G hG => (cast (congrFun (RDat.ArrAt_in (rdat0 V c) 4 rfl _) G) hG : G = _).trans (hne c main_arg4 (by decide)).symm
      · exact fun G hG => (arrAt0_5 V c G hG).trans (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold RDat.owesAt Pipeline.owesWithin
    icases HO with ⟨%S, -, HO⟩; iexists S; iexact HO

set_option backward.isDefEq.respectTransparency.types false in
/-- Region 1: entered with every unscoped buffer at `W`, left with them at `Vp`, which is `W` but for the region's output. -/
def reg1 (Vp : Vals (F := F)) (hout : ∀ c, Vp c main_v5 = projV W c)
    (hne : ∀ c (b : Ref sig .tc), b ≠ main_v5 → Vp c b = W c b) :
    RDat.RegionSeg (pcfgs (F := F)) adm (rdats V W) () defs₀ 𝒱₀ L lv 1 where
  win := launch1.win.to₀
  block_pos := launch1.block_pos
  stage_whole := launch1.stage_whole
  K := PEmpty
  osem k := k.elim
  ho := Pipeline.OwnSemFacts.none _
  hbody c := body1 W c
  hwaits := RDat.hwaits_of_owed_zero _ _ _ _ L lv 1 fun _ _ => rfl
  pre c := iprop(unscopedBufs c (W c) ∗ nowt c)
  post c := iprop(unscopedBufs c (Vp c) ∗ nowt c)
  X _ := BI.emp
  Y _ := BI.emp
  Z c := Pipeline.unscopedRest (Ix := Unit) (Name := ℕ) (U := UU) (Lvl := ℕ) spec1 c (W c)
  hentry c := by
    rw [Pipeline.ownSems0_none]
    have hsplit := RDat.arrays_of_unscopedBufs (p := 1) (pcfgs (F := F)) adm (rdats V W) launch1.win launch1.arr_whole c
      ((rdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%S, HO⟩; iexists S; isplitr; · ipureintro; exact fun _ _ => Or.inl trivial
      iexact HO
    isplitr; · iempintro
    iexact Hrest
  hin c := by
    rw [show (rdats V W 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (rdats V W 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := unscoped_of_arraysAt V W (p := 1) launch1.win launch1.arr_whole c
      ((rdats V W 1 c).share_full fun _ => rfl) (W c) (Vp c) cfg1.N (fun w => by
      fin_cases w
      · exact fun G hG => (cast (congrFun (RDat.ArrAt_in (rdat1 W c) 0 rfl _) G) hG : G = _).trans (hne c main_v4 (by decide)).symm
      · exact fun G hG => (cast (congrFun (RDat.ArrAt_in (rdat1 W c) 1 rfl _) G) hG : G = _).trans (hne c main_arg5 (by decide)).symm
      · exact fun G hG => (arrAt1_2 W c G hG).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold RDat.owesAt Pipeline.owesWithin
    icases HO with ⟨%S, -, HO⟩; iexists S; iexact HO

end Cert.KernelIdeal.Hand

end
-- ==== Proof.KernelRun.lean ====
module

public import proofs.«01_k».proof.Proof.Launch

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Seg)
open Cert.KernelIdeal.Gen

variable {F : FTy → Type} [FloatOps F]

local notation "𝕄" => MT nD τ sig Unit (Elt F) ℕ UU ℕ

/-- The whole program on its arguments: the attention of the reshaped operands, then the projection. -/
def kernelOut (a0 : FVec F S8x16x1x64 .f32) (a1 a2 : FVec F S8x16x4096x64 .f32) (a3 a4 : FVec F S64x64 .f32) (a5 : FVec F S1024x1024 .f32) :
    FVec F S8x1x1024 .f32 :=
  shapeCast S8x1x1024 (k1_pay1 (shapeCast S8x1024 (attnOut a3 a4 (shapeCast S128x1x64 a0 shapeCasts_S8x16x1x64_S128x1x64)
    (shapeCast S524288x64 a1 shapeCasts_S8x16x4096x64_S524288x64) (shapeCast S524288x64 a2 shapeCasts_S8x16x4096x64_S524288x64))
    shapeCasts_S128x1x64_S8x1024) a5) shapeCasts_S8x1024_S8x1x1024

variable (m : (ℓ : Loc nD τ sig) → Buf (Elt F) ℓ)

/-- Every buffer at a valuation. -/
abbrev valsOf (X : (c : Dev nD) → Valuation τ sig (Elt F)) : Vals (F := F) := fun c b => X c b

/-- What the first region is entered with. -/
abbrev Va : Vals (F := F) := valsOf (V1 m)
/-- What the second region is entered with, its first operand the reshaped attention. -/
def Wa : Vals (F := F) := valsOf fun c => StableHlo.after hostOps1 (Function.update (V1 m c) main_v3 (attnV (Va m) c))

/-- What the two regions leave in their outputs. -/
def outs : Outs (F := F) := fun _ r c =>
  if h : r = main_v3 then h ▸ attnV (Va m) c else if h : r = main_v5 then h ▸ projV (Wa m) c else m ((c : Thread nD τ).loc r)

/-- The first region's output is the attention. -/
theorem outs_v3 (c : Dev nD) : outs m 2 main_v3 c = attnV (Va m) c := by
  unfold outs; rw [dif_pos rfl]

/-- The second region is entered with `Wa`. -/
theorem Wa_eq : valsOf (V3 m (outs m)) = Wa m := by
  unfold Wa V3 V2; rw [funext fun c => outs_v3 m c]

/-- The second region's output is the projection. -/
theorem outs_v5 (c : Dev nD) : outs m 4 main_v5 c = projV (valsOf (V3 m (outs m))) c := by
  rw [Wa_eq]; unfold outs; rw [dif_neg (by decide), dif_pos rfl]

/-- The program's result, read off the last valuation. -/
theorem V5_main_v6 (c : Dev nD) : V5 m (outs m) c main_v6
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have h6 : V5 m (outs m) c main_v6 = shapeCast S8x1x1024 (V4 m (outs m) c main_v5) shapeCasts_S8x1024_S8x1x1024 := by
    unfold V5; rw [StableHlo.after_cons, StableHlo.after_nil, StableHlo.reshape_result]; rfl
  have h5 : V4 m (outs m) c main_v5 = projV (valsOf (V3 m (outs m))) c := by
    unfold V4; rw [Function.update_self, outs_v5]
  have h4 : V3 m (outs m) c main_v4 = shapeCast S8x1024 (V2 m (outs m) c main_v3) shapeCasts_S128x1x64_S8x1024 := by
    unfold V3; rw [StableHlo.after_cons, StableHlo.after_nil, StableHlo.reshape_result]; rfl
  have h3 : V2 m (outs m) c main_v3 = attnV (Va m) c := by
    unfold V2; rw [Function.update_self, outs_v3]
  have h35 : V3 m (outs m) c main_arg5 = m ((c : Thread nD τ).loc main_arg5) :=
    (V3_of m (outs m) c main_arg5 (by decide)).trans <| (V2_of m (outs m) c main_arg5 (by decide)).trans <| (V1_of m c main_arg5 (by decide)).trans rfl
  have h13 : V1 m c main_arg3 = m ((c : Thread nD τ).loc main_arg3) := (V1_of m c main_arg3 (by decide)).trans rfl
  have h14 : V1 m c main_arg4 = m ((c : Thread nD τ).loc main_arg4) := (V1_of m c main_arg4 (by decide)).trans rfl
  have h10 : V1 m c main_v0 = shapeCast S128x1x64 (m ((c : Thread nD τ).loc main_arg0)) shapeCasts_S8x16x1x64_S128x1x64 := by
    unfold V1; after_region_results; rfl
  have h11 : V1 m c main_v1 = shapeCast S524288x64 (m ((c : Thread nD τ).loc main_arg1)) shapeCasts_S8x16x4096x64_S524288x64 := by
    unfold V1; after_region_results; rfl
  have h12 : V1 m c main_v2 = shapeCast S524288x64 (m ((c : Thread nD τ).loc main_arg2)) shapeCasts_S8x16x4096x64_S524288x64 := by
    unfold V1; after_region_results; rfl
  unfold kernelOut
  rw [h6, h5]
  unfold projV
  rw [show valsOf (V3 m (outs m)) c main_v4 = _ from h4, show valsOf (V3 m (outs m)) c main_arg5 = _ from h35, h3]
  unfold attnV
  rw [show Va m c main_arg3 = _ from h13, show Va m c main_arg4 = _ from h14, show Va m c main_v0 = _ from h10,
    show Va m c main_v1 = _ from h11, show Va m c main_v2 = _ from h12]

/-- The two regions at the contents they are entered with. -/
abbrev pd := rdats (Va m) (valsOf (V3 m (outs m)))

/-- The first region, leaving the attention in its output. -/
def R0 : RDat.RegionSeg (pcfgs (F := F)) adm (pd m) () defs₀ 𝒱₀ L lv 0 :=
  reg0 (Va m) (valsOf (V3 m (outs m))) (valsOf (V2 m (outs m)))
    (fun c => by unfold valsOf V2; rw [Function.update_self, outs_v3])
    (fun c b hb => V2_of m (outs m) c b (by simpa using hb))

/-- The second region, leaving the projection in its output. -/
def R1 : RDat.RegionSeg (pcfgs (F := F)) adm (pd m) () defs₀ 𝒱₀ L lv 1 :=
  reg1 (Va m) (valsOf (V3 m (outs m))) (valsOf (V4 m (outs m)))
    (fun c => by unfold valsOf V4; rw [Function.update_self, outs_v5])
    (fun c b hb => V4_of m (outs m) c b (by simpa using hb))

/-- What rides along beside the buffers between the items. -/
abbrev rest (_ : Fin 3) (c : Dev nD) : sProp 𝕄 := nowt c

/-- The program's items: three host stretches around the two regions. -/
abbrev items : List (RDat.Seg (pcfgs (F := F)) adm (pd m) () defs₀ 𝒱₀ L lv) :=
  [.host (seg0 m 𝒱₀ L lv rest), .region (R0 m), .host (seg2 m (outs m) 𝒱₀ L lv rest), .region (R1 m),
    .host (seg4 m (outs m) 𝒱₀ L lv rest)]

/-- A core's buffers at a valuation, as the regions and as the host stretches spell it. -/
theorem held_iff (X : (c : Dev nD) → Valuation τ sig (Elt F)) (c : Dev nD) :
    (iprop(StableHlo.held (c : Thread nD τ) (Pipeline.ucRefs τ sig) (X c) ∗ nowt c) : sProp 𝕄)
      = iprop(unscopedBufs c (valsOf X c) ∗ nowt c) := by
  rw [← Pipeline.unscopedBufs_held (Ix := Unit) (Name := ℕ) (U := UU) (Lvl := ℕ) c (X c)]

set_option backward.isDefEq.respectTransparency.types false in
/-- From any memory with zero counters every weakly fair execution of the program ends, its result the function
    `kernelOut` of its arguments, the arguments as launched and every counter at zero. -/
theorem run_kernel (ρ : Dev nD → PrngReg) :
    θ_run defs (onTc (τ := τ) (main (F := F))) ⟨m, fun _ => 0, ρ⟩ (fun r => (∀ c : Dev nD,
      r.2.mem ((c.tc : Thread nD τ).loc main_v6)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine RDat.θ_run_regions_kit_dev_sems (pcfgs (F := F)) adm (pd m) () cellOf_inj emb₁ defs₀ 𝒱₀ L lv m ρ main (fun _ => items m)
    (fun c Q => by
      rewrite [main_chain c, RDat.Seg.run_eq_chain,
        show (items m).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ nowt c))
    (Tₙ := fun c => StableHlo.held (c : Thread nD τ) (Pipeline.ucRefs τ sig) (V5 m (outs m) c))
    (hch := fun c => ⟨.rfl, Entails.of_eq (held_iff (V1 m) c), Entails.of_eq (held_iff (V2 m (outs m)) c).symm,
      Entails.of_eq (held_iff (V3 m (outs m)) c), Entails.of_eq (held_iff (V4 m (outs m)) c).symm, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held (Ix := Unit) (Name := ℕ) (U := UU) (Lvl := ℕ) c (V0 m c)]
      iintro ⟨⟨Hh, -, HO, -, -, -⟩, -⟩
      imodintro
      isplitl [Hh]; · iexact Hh
      iexists ∅; iexact HO)
    (QY := fun c s => s.mem ((c.tc : Thread nD τ).loc main_v6)
        = kernelOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨(h (Proc.devRef .tc main_v6) (Finset.mem_filter.mpr ⟨StableHlo.devRef_mem_tcRefs main_v6, by decide⟩)).trans (V5_main_v6 m c),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c)⟩
  · iexact HSI

end Cert.KernelIdeal.Hand

end
-- ==== Proof.Frames.lean ====
module

public import proofs.«01_k».proof.Defs
public import proofs.«01_k».proof.Proof.Gen.Kernel
public import proofs.«01_k».proof.Proof.KernelRun
public import proofs.«01_k».proof.Proof.Gen.ReferenceIdeal.Run

@[expose] public section

set_option maxRecDepth 65536

noncomputable section

namespace Cert.Proof
open Idealize.ShloMosaic Idealize.SL.Sem

variable {F : FTy → Type} [FloatOps F]

/-- The two programs' bodies are the same program text, so their tables of bodies agree. -/
theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | 1, (t, s) => rfl
  | ⟨n + 2, h⟩, _ => exact absurd h (Nat.not_lt.2 (Nat.le_add_left _ _))

/-- The tables the two programs run with agree. -/
theorem defs_same : Cert.Kernel.defs (F := F) = Cert.KernelIdeal.defs (F := F) :=
  congrArg (Pipeline.defs Cert.KernelIdeal.pcfgs) defs₀_same

/-- The compiled program runs, leaves its arguments as they were and every counter at zero. -/
theorem frame_Kernel : Cert.quiescent_Kernel := fun m g _ => by
  have h := Cert.KernelIdeal.Hand.run_kernel (F := Bits) m g
  rw [← defs_same] at h
  exact (θ_run _ _ _).mono (fun r h => ⟨fun c => (h.1 c).2, h.2⟩) h

/-- The program over the extended reals likewise. -/
theorem frame_KernelIdeal : Cert.quiescent_KernelIdeal := fun m g _ =>
  (θ_run _ _ _).mono (fun _ h => ⟨fun c => (h.1 c).2, h.2⟩) (Cert.KernelIdeal.Hand.run_kernel (F := Ideal) m g)

/-- The reference has no semaphore. -/
theorem reference_no_sem (sm : SemLoc Cert.ReferenceIdeal.sig) : False := by
  revert sm; decide

/-- The reference over the extended reals likewise. -/
theorem frame_ReferenceIdeal : Cert.quiescent_ReferenceIdeal := fun m g _ =>
  (θ_run _ _ _).mono (fun _ h => ⟨fun c => (h c).2, funext fun s => (reference_no_sem s.2).elim⟩)
    (Cert.ReferenceIdeal.Value.run (F := Ideal) m g)

end Cert.Proof

end
-- ==== Proof.Select.lean ====
/-
  Selecting a fixed number of positions by greatest score, the earlier of two equal scores first: the set is determined by
  its size; a stable sort's first positions are it; and a threshold with an index cutoff, found by halving, cuts it out.
-/
module

public import Idealize.ShloMosaic.Lib.SortFacts
public import Idealize.ShloMosaic.Lib.Pointwise
public import Idealize.ShloMosaic.Lib.IdealHost

@[expose] public section

noncomputable section

namespace Cert.KernelIdeal.Hand

open Idealize.ShloMosaic

variable {n : ℕ} (M : Fin n → ℤ)

/-- Position `i` is taken before position `j`: its score is greater, or equal with `i` the earlier. -/
def Before (i j : Fin n) : Prop := M j < M i ∨ (M i = M j ∧ i.val < j.val)

/-- A set of positions each of which is taken before each position outside. -/
def IsTop (A : Finset (Fin n)) : Prop := ∀ i ∈ A, ∀ j, j ∉ A → Before M i j

/-- Two such sets of one size are equal. -/
theorem IsTop.unique {A B : Finset (Fin n)} (hA : IsTop M A) (hB : IsTop M B) (hc : A.card = B.card) : A = B := by
  by_contra hne
  have h1 : ∃ i ∈ A, i ∉ B := by
    by_contra h
    push Not at h
    exact hne (Finset.eq_of_subset_of_card_le h hc.ge)
  have h2 : ∃ i ∈ B, i ∉ A := by
    by_contra h
    push Not at h
    exact hne (Finset.eq_of_subset_of_card_le h hc.le).symm
  obtain ⟨i, hi, hi'⟩ := h1
  obtain ⟨j, hj, hj'⟩ := h2
  have a := hA i hi j hj'
  have b := hB j hj i hi'
  unfold Before at a b
  omega

/-- Inserting an earlier position into a list in order of taking keeps that order. -/
theorem insert_before (a : Fin n) (l : List (Fin n)) (ha : ∀ b ∈ l, a.val < b.val) (hl : l.Pairwise (Before M)) :
    (insertBefore (fun i j => decide (M j < M i)) a l).Pairwise (Before M) := by
  induction l with
  | nil => exact List.pairwise_singleton _ _
  | cons b l ih =>
    rw [List.pairwise_cons] at hl
    unfold insertBefore
    have hab := ha b List.mem_cons_self
    split
    · rename_i h
      have h : M a < M b := of_decide_eq_true h
      refine List.pairwise_cons.mpr ⟨fun c hc => ?_, ih (fun c hc => ha c (List.mem_cons_of_mem _ hc)) hl.2⟩
      rcases List.mem_cons.mp ((perm_insertBefore _ a l).mem_iff.mp hc) with rfl | hc
      · exact Or.inl h
      · exact hl.1 c hc
    · rename_i h
      have h : ¬ M a < M b := fun h' => h (decide_eq_true h')
      refine List.pairwise_cons.mpr ⟨fun c hc => ?_, List.pairwise_cons.mpr hl⟩
      rcases List.mem_cons.mp hc with rfl | hc'
      · unfold Before; omega
      · have hb := hl.1 c hc'
        have hc := ha c hc
        unfold Before at hb ⊢; omega

/-- A stable sort by greater score puts positions in order of taking. -/
theorem stable_before (l : List (Fin n)) (hl : l.Pairwise fun a b => a.val < b.val) :
    (stableSort (fun i j => decide (M j < M i)) l).Pairwise (Before M) := by
  induction l with
  | nil => exact List.Pairwise.nil
  | cons a l ih =>
    rw [List.pairwise_cons] at hl
    unfold stableSort
    exact insert_before M a _ (fun b hb => hl.1 b ((perm_stableSort _ l).mem_iff.mp hb)) (ih hl.2)

/-- The stable sort's positions, from the first, are in order of taking. -/
theorem sorted_before (i j : Fin n) (h : i < j) :
    Before M (sortedFrom (fun a b => decide (M b < M a)) i) (sortedFrom (fun a b => decide (M b < M a)) j) := by
  have hp := List.pairwise_iff_get.mp (stable_before M (List.finRange n) (List.pairwise_lt_finRange n))
  unfold sortedFrom
  exact hp _ _ h

/-- The set of the first `k` sorted positions. -/
def firstOf (k : ℕ) (hk : k ≤ n) : Finset (Fin n) :=
  Finset.univ.image fun p : Fin k => sortedFrom (fun a b => decide (M b < M a)) (p.castLE hk)

/-- The positions it is the image of are distinct. -/
theorem firstOf_inj (k : ℕ) (hk : k ≤ n) :
    Function.Injective fun p : Fin k => sortedFrom (fun a b => decide (M b < M a)) (p.castLE hk) :=
  (sortedFrom_injective _).comp (Fin.castLE_injective hk)

/-- It has `k` positions. -/
theorem card_firstOf (k : ℕ) (hk : k ≤ n) : (firstOf M k hk).card = k := by
  rw [firstOf, Finset.card_image_of_injective _ (firstOf_inj M k hk), Finset.card_univ, Fintype.card_fin]

/-- Each of its positions is taken before each other one. -/
theorem isTop_firstOf (k : ℕ) (hk : k ≤ n) : IsTop M (firstOf M k hk) := by
  intro i hi j hj
  obtain ⟨p, -, rfl⟩ := Finset.mem_image.mp hi
  obtain ⟨r, rfl⟩ := sortedFrom_surjective (fun a b => decide (M b < M a)) j
  refine sorted_before M _ _ ?_
  by_contra hle
  have hlt : r.val < k := lt_of_le_of_lt (not_lt.mp hle) p.isLt
  exact hj (Finset.mem_image.mpr ⟨⟨r.val, hlt⟩, Finset.mem_univ _, rfl⟩)

/-! ### A threshold and a cutoff -/

/-- How many scores are at least `x`. -/
def cntGe (x : ℤ) : ℕ := (Finset.univ.filter fun i => x ≤ M i).card

/-- How many scores equal `t` at positions before `c`. -/
def cntEq (t c : ℤ) : ℕ := (Finset.univ.filter fun i => M i = t ∧ (i.val : ℤ) < c).card

/-- The positions above the threshold, and those at it before the cutoff. -/
def picked (t c : ℤ) : Finset (Fin n) := Finset.univ.filter fun i => t < M i ∨ (M i = t ∧ (i.val : ℤ) < c)

/-- Whatever the threshold and the cutoff, each position picked is taken before each other one. -/
theorem isTop_picked (t c : ℤ) : IsTop M (picked M t c) := by
  intro i hi j hj
  simp only [picked, Finset.mem_filter, Finset.mem_univ, true_and] at hi hj
  unfold Before
  omega

/-- The number picked: those above the threshold and those at it. -/
theorem card_picked (t c : ℤ) : (picked M t c).card = cntGe M (t + 1) + cntEq M t c := by
  rw [cntGe, cntEq, ← Finset.card_union_of_disjoint]
  · congr 1
    ext i
    simp only [picked, Finset.mem_filter, Finset.mem_univ, true_and, Finset.mem_union]
    omega
  · rw [Finset.disjoint_left]
    intro i
    simp only [Finset.mem_filter, Finset.mem_univ, true_and]
    omega

/-- Scores at least `t` are those above it and all those at it. -/
theorem cntGe_split (t : ℤ) : cntGe M t = cntGe M (t + 1) + cntEq M t n := by
  rw [← card_picked, cntGe]
  congr 1
  ext i
  have := i.isLt
  simp only [picked, Finset.mem_filter, Finset.mem_univ, true_and]
  omega

/-- One position more raises the count at the threshold by one at most. -/
theorem cntEq_succ (t c : ℤ) : cntEq M t (c + 1) ≤ cntEq M t c + 1 := by
  have hone : (Finset.univ.filter fun i : Fin n => (i.val : ℤ) = c).card ≤ 1 :=
    Finset.card_le_one.mpr fun a ha b hb => by
      simp only [Finset.mem_filter, Finset.mem_univ, true_and] at ha hb
      exact Fin.ext (by omega)
  refine le_trans ?_ (Nat.add_le_add_left hone _)
  rw [cntEq, cntEq]
  refine le_trans (Finset.card_le_card fun i hi => ?_) (Finset.card_union_le _ _)
  simp only [Finset.mem_filter, Finset.mem_univ, true_and, Finset.mem_union] at hi ⊢
  omega

/-- Nothing lies before position zero. -/
theorem cntEq_zero (t : ℤ) : cntEq M t 0 = 0 := by
  rw [cntEq, Finset.card_eq_zero, Finset.filter_eq_empty_iff]
  intro i _
  omega

/-- What the threshold's search keeps, with `k` halvings done from a width of `2 ^ b`: between its two ends lies the greatest
    score that `r` entries reach. -/
def ThrInv (r b k : ℕ) (lo hi : ℤ) : Prop :=
  lo ≤ hi ∧ (hi - lo) * 2 ^ k ≤ 2 ^ b ∧ r ≤ cntGe M lo ∧ cntGe M (hi + 1) < r

/-- A halving of the threshold's search keeps it. -/
theorem ThrInv.step {r b k : ℕ} {lo hi : ℤ} (h : ThrInv M r b k lo hi) :
    (r ≤ cntGe M ((lo + hi + 1) / 2) → ThrInv M r b (k + 1) ((lo + hi + 1) / 2) hi)
    ∧ (¬ r ≤ cntGe M ((lo + hi + 1) / 2) → ThrInv M r b (k + 1) lo ((lo + hi + 1) / 2 - 1)) := by
  obtain ⟨h1, h2, h3, h4⟩ := h
  have hp : (0 : ℤ) < 2 ^ k := by positivity
  refine ⟨fun h => ⟨by omega, ?_, h, h4⟩, fun h => ⟨?_, ?_, h3, ?_⟩⟩
  · have : (hi - (lo + hi + 1) / 2) * 2 ≤ hi - lo := by omega
    calc _ = (hi - (lo + hi + 1) / 2) * 2 * 2 ^ k := by ring
      _ ≤ (hi - lo) * 2 ^ k := Int.mul_le_mul_of_nonneg_right this hp.le
      _ ≤ _ := h2
  · by_contra hlt
    exact h (by rw [show (lo + hi + 1) / 2 = lo by omega]; exact h3)
  · have : ((lo + hi + 1) / 2 - 1 - lo) * 2 ≤ hi - lo := by omega
    calc _ = ((lo + hi + 1) / 2 - 1 - lo) * 2 * 2 ^ k := by ring
      _ ≤ (hi - lo) * 2 ^ k := Int.mul_le_mul_of_nonneg_right this hp.le
      _ ≤ _ := h2
  · rw [sub_add_cancel]; omega

/-- What the cutoff's search keeps, with `k` halvings done from a width of `2 ^ b`: the count at the upper end reaches what
    is needed, and below the lower end it does not. -/
def CutInv (t : ℤ) (r b k : ℕ) (lo hi : ℤ) : Prop :=
  0 ≤ lo ∧ lo ≤ hi ∧ (hi - lo) * 2 ^ k ≤ 2 ^ b ∧ r ≤ cntEq M t hi ∧ (lo = 0 ∨ cntEq M t (lo - 1) < r)

/-- A halving of the cutoff's search keeps it. -/
theorem CutInv.step {t : ℤ} {r b k : ℕ} {lo hi : ℤ} (h : CutInv M t r b k lo hi) :
    (r ≤ cntEq M t ((lo + hi) / 2) → CutInv M t r b (k + 1) lo ((lo + hi) / 2))
    ∧ (¬ r ≤ cntEq M t ((lo + hi) / 2) → CutInv M t r b (k + 1) ((lo + hi) / 2 + 1) hi) := by
  obtain ⟨h0, h1, h2, h3, h4⟩ := h
  have hp : (0 : ℤ) < 2 ^ k := by positivity
  refine ⟨fun h => ⟨h0, by omega, ?_, h, h4⟩, fun h => ⟨by omega, ?_, ?_, h3, ?_⟩⟩
  · have : ((lo + hi) / 2 - lo) * 2 ≤ hi - lo := by omega
    calc _ = ((lo + hi) / 2 - lo) * 2 * 2 ^ k := by ring
      _ ≤ (hi - lo) * 2 ^ k := Int.mul_le_mul_of_nonneg_right this hp.le
      _ ≤ _ := h2
  · by_contra hlt
    exact h (by rw [show (lo + hi) / 2 = hi by omega]; exact h3)
  · have : (hi - ((lo + hi) / 2 + 1)) * 2 ≤ hi - lo := by omega
    calc _ = (hi - ((lo + hi) / 2 + 1)) * 2 * 2 ^ k := by ring
      _ ≤ (hi - lo) * 2 ^ k := Int.mul_le_mul_of_nonneg_right this hp.le
      _ ≤ _ := h2
  · exact Or.inr (by rw [add_sub_cancel_right]; omega)

/-- Once a width of `2 ^ b` was halved more than `b` times the two ends meet. -/
theorem ends_meet {b k : ℕ} (hk : b < k) {lo hi : ℤ} (h1 : lo ≤ hi) (h2 : (hi - lo) * 2 ^ k ≤ 2 ^ b) : hi = lo := by
  by_contra hne
  have hw : 1 ≤ hi - lo := by omega
  have hb : (2 : ℤ) ^ b < 2 ^ k := pow_lt_pow_right₀ (by norm_num) hk
  have : (2 : ℤ) ^ k ≤ (hi - lo) * 2 ^ k := le_mul_of_one_le_left (by positivity) hw
  omega

/-- The two searches done, exactly `r` positions are picked. -/
theorem card_picked_eq {r b k b' k' : ℕ} (hk : b < k) (hk' : b' < k') {t hi lo c : ℤ} (ht : ThrInv M r b k t hi)
    (hc : CutInv M t (r - cntGe M (t + 1)) b' k' lo c) : (picked M t c).card = r := by
  obtain ⟨a1, a2, a3, a4⟩ := ht
  obtain ⟨b0, b1, b2, b3, b4⟩ := hc
  obtain rfl := ends_meet hk a1 a2
  obtain rfl := ends_meet hk' b1 b2
  rw [card_picked]
  rcases b4 with rfl | b4
  · rw [cntEq_zero] at b3 ⊢; omega
  · have := cntEq_succ M hi (c - 1)
    rw [sub_add_cancel] at this
    omega

end Cert.KernelIdeal.Hand

end
-- ==== Proof.Count.lean ====
/-
  The attention body's two binary searches over the extended reals: with integer match scores, the threshold and the cutoff
  they end at pick exactly 128 positions.
-/
module

public import proofs.«01_k».proof.Proof.Head
public import proofs.«01_k».proof.Proof.Select

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- An integer as an extended real. -/
def z (a : ℤ) : EReal := ((a : ℝ) : EReal)

/-- A row of 4096 entries as 32 rows of 128. -/
def tile {α : Type} (f : Fin 4096 → α) : S32x128.Idx → α := fun j =>
  f ⟨(j 0).val * 128 + (j 1).val, by have h0 : (j 0).val < 32 := (j 0).isLt; have h1 : (j 1).val < 128 := (j 1).isLt; omega⟩

/-- Integers add as their values do. -/
theorem z_add (a b : ℤ) : z a + z b = z (a + b) := by simp [z]
/-- Integers subtract as their values do. -/
theorem z_sub (a b : ℤ) : z a - z b = z (a - b) := by simp [z]
/-- Integers compare as their values do, weakly. -/
theorem z_le (a b : ℤ) : z a ≤ z b ↔ a ≤ b := by simp [z]
/-- Integers compare as their values do, strictly. -/
theorem z_lt (a b : ℤ) : z a < z b ↔ a < b := by simp [z]
/-- Equal values come of equal integers only. -/
theorem z_inj (a b : ℤ) : z a = z b ↔ a = b := by simp [z]
/-- The value of the integer 1. -/
theorem z_one : z 1 = 1 := by simp [z]
/-- The value of the integer 0. -/
theorem z_zero : z 0 = 0 := by simp [z]

/-- The word of 1. -/
theorem lit_one : Ideal.ofBits .f32 0x3F800000#32 = z 1 := by rw [z_one]; exact Ideal.ofBits_one_f32
/-- The word of 128. -/
theorem lit_128 : Ideal.ofBits .f32 0x43000000#32 = z 128 := by
  simp [Ideal.ofBits, Ideal.ieee, z, -EReal.coe_mul]; norm_num
/-- The word of 64. -/
theorem lit_64 : Ideal.ofBits .f32 0x42800000#32 = z 64 := by
  simp [Ideal.ofBits, Ideal.ieee, z, -EReal.coe_mul]; norm_num
/-- The word of -64. -/
theorem lit_neg64 : Ideal.ofBits .f32 0xC2800000#32 = z (-64) := by
  simp [Ideal.ofBits, Ideal.ieee, z, -EReal.coe_mul, -EReal.coe_neg]; norm_num
/-- The word of 4096. -/
theorem lit_4096 : Ideal.ofBits .f32 0x45800000#32 = z 4096 := by
  simp [Ideal.ofBits, Ideal.ieee, z, -EReal.coe_mul]; norm_num
/-- The word of one half. -/
theorem lit_half : Ideal.ofBits .f32 0x3F000000#32 = (((1 : ℝ) / 2 : ℝ) : EReal) := by
  simp [Ideal.ofBits, Ideal.ieee, -EReal.coe_mul]; norm_num

/-- Half an integer, rounded down. -/
theorem floor_half (a : ℤ) : Ideal.liftRound Int.floor (z a * (((1 : ℝ) / 2 : ℝ) : EReal)) = z (a / 2) := by
  rw [z, ← EReal.coe_mul]
  show (((⌊(a : ℝ) * (1 / 2)⌋ : ℤ) : ℝ) : EReal) = _
  have : ⌊(a : ℝ) * (1 / 2)⌋ = a / 2 := by
    rw [Int.floor_eq_iff]
    have h1 : 2 * (a / 2) ≤ a := by omega
    have h2 : a < 2 * (a / 2) + 2 := by omega
    have h1' : 2 * ((a / 2 : ℤ) : ℝ) ≤ a := by exact_mod_cast h1
    have h2' : (a : ℝ) < 2 * ((a / 2 : ℤ) : ℝ) + 2 := by exact_mod_cast h2
    constructor <;> linarith
  rw [this, z]

/-- The entry of the row at column `b` of row `a` of the block. -/
def cell (a : Fin 32) (b : Fin 128) : Fin 4096 := ⟨a.val * 128 + b.val, by have := a.isLt; have := b.isLt; omega⟩

/-- A sum over the block is a sum over the row. -/
theorem sum_cell {A : Type} [AddCommMonoid A] (f : Fin 4096 → A) : ∑ a : Fin 32, ∑ b : Fin 128, f (cell a b) = ∑ i, f i :=
  (Fin.sum_univ_tiles 32 128 (N := 4096) rfl f).symm

/-- A sum over the block of ones and zeros is the number of ones. -/
theorem count_cell (p : Fin 4096 → Prop) [DecidablePred p] (g : Fin 32 → Fin 128 → EReal)
    (hg : ∀ a b, g a b = if p (cell a b) then 1 else 0) : ∑ a : Fin 32, ∑ b : Fin 128, g a b = z (Finset.univ.filter p).card := by
  simp only [hg]
  rw [sum_cell fun i => if p i then (1 : EReal) else 0, Finset.sum_boole, z]
  simp

/-- A comparison's bit, widened and converted, is one or zero. -/
theorem bit_z (p : Prop) [Decidable p] :
    FloatOps.sitofp (F := Ideal) .f32 (BitVec.setWidth 32 (BitVec.ofBool (decide p))) = if p then (1 : EReal) else 0 := by
  show ((((BitVec.setWidth 32 (BitVec.ofBool (decide p))).toInt : ℤ) : ℝ) : EReal) = _
  by_cases h : p <;> simp [h]

variable (M : Fin 4096 → ℤ)

/-- The middle the threshold's search tries. -/
theorem pay9_z (lo hi : ℤ) : k0_pay9 (F := Ideal) one (fun _ => z lo) (fun _ => z hi) = fun _ => z ((lo + hi + 1) / 2) := by
  funext j
  pointwise [k0_pay9, k0_pay6]
  rw [lit_half, ← z_one]
  simp only [z_add, floor_half]

/-- Whether 128 scores reach that middle. -/
theorem pay10_z (lo hi : ℤ) : k0_pay10 (F := Ideal) (tile fun i => z (M i)) one (fun _ => z lo) (fun _ => z hi)
    = fun _ => BitVec.ofBool (decide (128 ≤ cntGe M ((lo + hi + 1) / 2))) := by
  funext j
  unfold k0_pay10
  rw [pay9_z]
  pointwise []
  rw [count_cell (fun i => (lo + hi + 1) / 2 ≤ M i) _ fun a b => (bit_z _).trans (by simp only [tile, z_le]; rfl), lit_128]
  congr 1
  refine decide_eq_decide.mpr ?_
  rw [z_le, cntGe]
  omega

/-- A select by two decided bits both set. -/
theorem select_both {α : Type} (p q : Prop) [Decidable p] [Decidable q] (x y : α) :
    Scalar.select (IntOp.andi (BitVec.ofBool (decide p)) (BitVec.ofBool (decide q))) x y = if p ∧ q then x else y := by
  by_cases h : p <;> by_cases h' : q <;> simp [h, h', Scalar.select, IntOp.andi]

/-- A select by a decided bit. -/
theorem select_dec {α : Type} (p : Prop) [Decidable p] (x y : α) :
    select (s := S1x1) (fun _ => BitVec.ofBool (decide p)) (fun _ => x) (fun _ => y) = fun _ => if p then x else y := by
  funext j
  by_cases h : p <;> pointwise [h]

/-- The threshold's search at its next lower end. -/
theorem pay11_z (lo hi : ℤ) : k0_pay11 (F := Ideal) (tile fun i => z (M i)) one (fun _ => z lo) (fun _ => z hi)
    = fun _ => z (if 128 ≤ cntGe M ((lo + hi + 1) / 2) then (lo + hi + 1) / 2 else lo) := by
  unfold k0_pay11
  rw [pay9_z, pay10_z]
  refine (select_dec _ _ _).trans ?_
  rw [apply_ite z]

/-- The threshold's search at its next upper end. -/
theorem pay12_z (lo hi : ℤ) : k0_pay12 (F := Ideal) (tile fun i => z (M i)) one (fun _ => z lo) (fun _ => z hi)
    = fun _ => z (if 128 ≤ cntGe M ((lo + hi + 1) / 2) then hi else (lo + hi + 1) / 2 - 1) := by
  unfold k0_pay12
  rw [pay9_z, pay10_z]
  refine Eq.trans ?_ ((select_dec _ (z hi) (z ((lo + hi + 1) / 2 - 1))).trans (by rw [apply_ite z]))
  congr 1
  funext j
  pointwise [k0_pay6]
  rw [← z_one, z_sub]

/-- A step-by-step fact of a fold. -/
theorem fold_inv {σ : Type} {n : ℕ} (g : Fin n → σ → σ) (init : σ) (P : ℕ → σ → Prop) (h0 : P 0 init)
    (hs : ∀ k i s, P k s → P (k + 1) (g i s)) : P n (Scf.fold g init) := by
  rw [Scf.fold_eq]
  have : ∀ (l : List (Fin n)) k s, P k s → P (k + l.length) (l.foldl (fun acc k => g k acc) s) := by
    intro l
    induction l with
    | nil => intro k s h; exact h
    | cons a l ih =>
      intro k s h
      have := ih (k + 1) (g a s) (hs k a s h)
      rwa [Nat.add_assoc, Nat.add_comm 1] at this
  have h := this (List.finRange n) 0 init h0
  rwa [Nat.zero_add, List.length_finRange] at h

/-- Scores between −64 and 64: the threshold the search ends at is an integer with what the search keeps. -/
theorem thr_z (hM : ∀ i, -64 ≤ M i ∧ M i ≤ 64) :
    ∃ t hi, thr (F := Ideal) (tile fun i => z (M i)) = (fun _ => z t) ∧ ThrInv M 128 7 8 t hi := by
  have h := fold_inv (n := k0_t1_loop.trips)
    (fun _ s => (k0_pay11 (F := Ideal) (tile fun i => z (M i)) one s.1 s.2, k0_pay12 (tile fun i => z (M i)) one s.1 s.2))
    (k0_pay7 one, k0_pay8 one)
    (fun k s => ∃ lo hi, s = (fun _ => z lo, fun _ => z hi) ∧ ThrInv M 128 7 k lo hi) ?_ ?_
  · obtain ⟨lo, hi, e, hinv⟩ := h
    exact ⟨lo, hi, congrArg Prod.fst e, hinv⟩
  · refine ⟨-64, 64, Prod.ext ?_ ?_, by norm_num, by norm_num, ?_, ?_⟩
    · funext j; pointwise [k0_pay7, k0_pay6]; rw [lit_neg64]
    · funext j; pointwise [k0_pay8, k0_pay6]; rw [lit_64]
    · rw [cntGe, Finset.filter_true_of_mem fun i _ => (hM i).1]; simp
    · rw [cntGe, Finset.filter_false_of_mem fun i _ => by have := (hM i).2; omega]; simp
  · rintro k - s ⟨lo, hi, rfl, hinv⟩
    dsimp only
    rw [pay11_z, pay12_z]
    refine ⟨_, _, rfl, ?_⟩
    by_cases hc : 128 ≤ cntGe M ((lo + hi + 1) / 2)
    · simp only [hc, if_true]; exact hinv.step.1 hc
    · simp only [hc, if_false]; exact hinv.step.2 hc

/-! ### The cutoff -/

/-- The positions of the block, as the body computes them. -/
theorem pay15_z : k0_pay15 (F := Ideal) = tile fun i => z i.val := by
  funext j
  pointwise [k0_pay15]
  have h0 : (j 0).val < 32 := (j 0).isLt
  have h1 : (j 1).val < 128 := (j 1).isLt
  have e : IntOp.addi (IntOp.muli (BitVec.ofNat 32 (j 0).val) 128#32) (BitVec.ofNat 32 (j 1).val)
      = BitVec.ofNat 32 ((j 0).val * 128 + (j 1).val) := by
    show BitVec.ofNat 32 (j 0).val * BitVec.ofNat 32 128 + BitVec.ofNat 32 (j 1).val = _
    rw [← BitVec.ofNat_mul, ← BitVec.ofNat_add]
  rw [e]
  show ((((BitVec.ofNat 32 ((j 0).val * 128 + (j 1).val)).toInt : ℤ) : ℝ) : EReal) = z _
  rw [z, BitVec.toInt_eq_toNat_of_lt (by rw [BitVec.toNat_ofNat]; omega), BitVec.toNat_ofNat, Nat.mod_eq_of_lt (by omega)]

/-- The middle the cutoff's search tries. -/
theorem pay18_z (lo hi : ℤ) : k0_pay18 (F := Ideal) (fun _ => z lo) (fun _ => z hi) = fun _ => z ((lo + hi) / 2) := by
  funext j
  pointwise [k0_pay18]
  rw [lit_half]
  simp only [z_add, floor_half]

/-- Whether the scores at the threshold before that middle are as many as needed. -/
theorem pay19_z (t lo hi : ℤ) (ht : cntGe M (t + 1) ≤ 128) :
    k0_pay19 (F := Ideal) (tile fun i => z (M i)) (fun _ => z t) (fun _ => z lo) (fun _ => z hi)
    = fun _ => BitVec.ofBool (decide (128 - cntGe M (t + 1) ≤ cntEq M t ((lo + hi) / 2))) := by
  funext j
  unfold k0_pay19
  rw [pay18_z, pay15_z]
  pointwise [k0_pay13, k0_pay14]
  rw [count_cell (fun i => t + 1 ≤ M i) _ fun a b => (bit_z _).trans (by simp only [tile, z_lt, Int.add_one_le_iff]; rfl),
    count_cell (fun i => M i = t ∧ (i.val : ℤ) < (lo + hi) / 2) _ fun a b =>
      (select_both _ _ _ _).trans (by simp only [tile, z_lt, z_inj]; rfl), lit_128]
  simp only [z_sub, z_le]
  congr 1
  refine decide_eq_decide.mpr ?_
  unfold cntGe at ht ⊢
  unfold cntEq
  omega

/-- The cutoff's search at its next lower end. -/
theorem pay20_z (t lo hi : ℤ) (ht : cntGe M (t + 1) ≤ 128) :
    k0_pay20 (F := Ideal) (tile fun i => z (M i)) one (fun _ => z t) (fun _ => z lo) (fun _ => z hi)
    = fun _ => z (if 128 - cntGe M (t + 1) ≤ cntEq M t ((lo + hi) / 2) then lo else (lo + hi) / 2 + 1) := by
  unfold k0_pay20
  rw [pay18_z, pay19_z M t lo hi ht]
  refine Eq.trans ?_ ((select_dec _ (z lo) (z ((lo + hi) / 2 + 1))).trans (by rw [apply_ite z]))
  congr 1
  funext j
  pointwise [k0_pay6]
  rw [← z_one, z_add]

/-- The cutoff's search at its next upper end. -/
theorem pay21_z (t lo hi : ℤ) (ht : cntGe M (t + 1) ≤ 128) :
    k0_pay21 (F := Ideal) (tile fun i => z (M i)) (fun _ => z t) (fun _ => z lo) (fun _ => z hi)
    = fun _ => z (if 128 - cntGe M (t + 1) ≤ cntEq M t ((lo + hi) / 2) then (lo + hi) / 2 else hi) := by
  unfold k0_pay21
  rw [pay18_z, pay19_z M t lo hi ht]
  refine (select_dec _ _ _).trans ?_
  rw [apply_ite z]

/-- With a threshold as its search leaves it, the cutoff the second search ends at is an integer with what that search keeps. -/
theorem cut_z (t hi : ℤ) (ht : ThrInv M 128 7 8 t hi) :
    ∃ lo c, cut (F := Ideal) (tile fun i => z (M i)) (fun _ => z t) = (fun _ => z c)
      ∧ CutInv M t (128 - cntGe M (t + 1)) 12 13 lo c := by
  obtain rfl := ends_meet (by norm_num) ht.1 ht.2.1
  have h128 : cntGe M (hi + 1) ≤ 128 := ht.2.2.2.le
  have h := fold_inv (n := k0_t2_loop.trips)
    (fun _ s => (k0_pay20 (F := Ideal) (tile fun i => z (M i)) one (fun _ => z hi) s.1 s.2,
      k0_pay21 (tile fun i => z (M i)) (fun _ => z hi) s.1 s.2))
    (k0_pay16 one, k0_pay17 one)
    (fun k s => ∃ lo c, s = (fun _ => z lo, fun _ => z c) ∧ CutInv M hi (128 - cntGe M (hi + 1)) 12 k lo c) ?_ ?_
  · obtain ⟨lo, c, e, hinv⟩ := h
    exact ⟨lo, c, congrArg Prod.snd e, hinv⟩
  · refine ⟨0, 4096, Prod.ext ?_ ?_, le_refl _, by norm_num, by norm_num, ?_, Or.inl rfl⟩
    · funext j; pointwise [k0_pay16, k0_pay6]; rw [z_zero]
    · funext j; pointwise [k0_pay17, k0_pay6]; rw [lit_4096]
    · have h1 := cntGe_split M hi
      have h2 := ht.2.2.1
      have e : ((4096 : ℕ) : ℤ) = 4096 := rfl
      rw [e] at h1
      omega
  · rintro k - s ⟨lo, c, rfl, hinv⟩
    dsimp only
    rw [pay20_z M hi lo c h128, pay21_z M hi lo c h128]
    refine ⟨_, _, rfl, ?_⟩
    by_cases hc : 128 - cntGe M (hi + 1) ≤ cntEq M hi ((lo + c) / 2)
    · simp only [hc, if_true]; exact hinv.step.1 hc
    · simp only [hc, if_false]; exact hinv.step.2 hc

/-- Scores between −64 and 64: the threshold and the cutoff of the two searches pick exactly 128 positions. -/
theorem search_z (hM : ∀ i, -64 ≤ M i ∧ M i ≤ 64) :
    ∃ t c, thr (F := Ideal) (tile fun i => z (M i)) = (fun _ => z t)
      ∧ cut (F := Ideal) (tile fun i => z (M i)) (fun _ => z t) = (fun _ => z c) ∧ (picked M t c).card = 128 := by
  obtain ⟨t, hi, e, ht⟩ := thr_z M hM
  obtain ⟨lo, c, e', hc⟩ := cut_z M t hi ht
  exact ⟨t, c, e, e', card_picked_eq M (by norm_num) (by norm_num) ht hc⟩

end Cert.KernelIdeal.Hand

end
-- ==== Proof.Soft.lean ====
/-
  The attention body after its two searches, over the extended reals: the softmax of the scores at the positions picked,
  applied to the values at those positions.
-/
module

public import proofs.«01_k».proof.Proof.Count

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The softmax over the positions of `A` of the scores `s`, applied to `v`. -/
def softOn {n : ℕ} (A : Finset (Fin n)) (s v : Fin n → EReal) : EReal :=
  ∑ i ∈ A, Ideal.div (Ideal.exp (s i - A.sup s)) (∑ j ∈ A, Ideal.exp (s j - A.sup s)) * v i

/-- The word of minus infinity reads as the least extended real. -/
theorem lit_bot : Ideal.ofBits .f32 0xFF800000#32 = ⊥ := by
  simp [Ideal.ofBits, Ideal.ieee]

/-- The greatest of the entries of a block is the row's. -/
theorem max_cell (f : Fin 4096 → EReal) (g : Fin 32 × Fin 128 → EReal) (hg : ∀ a, g a = f (cell a.1 a.2)) :
    Finset.univ.fold max ⊥ g = Finset.univ.sup f := by
  show Finset.univ.sup g = _
  refine le_antisymm (Finset.sup_le fun a _ => (hg a).le.trans (Finset.le_sup (Finset.mem_univ _))) (Finset.sup_le fun i _ => ?_)
  have hi := i.isLt
  have e : f i = g (⟨i.val / 128, by omega⟩, ⟨i.val % 128, by omega⟩) := by
    rw [hg]; congr 1; apply Fin.ext; show i.val = i.val / 128 * 128 + i.val % 128; omega
  rw [e]
  exact Finset.le_sup (Finset.mem_univ _)

/-- Scores masked outside a set have the set's greatest. -/
theorem sup_masked {n : ℕ} (A : Finset (Fin n)) (s : Fin n → EReal) :
    (Finset.univ.sup fun i => if i ∈ A then s i else ⊥) = A.sup s := by
  refine le_antisymm (Finset.sup_le fun i _ => ?_) (Finset.sup_le fun i hi => ?_)
  · by_cases h : i ∈ A
    · rw [if_pos h]; exact Finset.le_sup h
    · rw [if_neg h]; exact bot_le
  · have := Finset.le_sup (f := fun i => if i ∈ A then s i else ⊥) (Finset.mem_univ i)
    simpa [hi] using this

variable (M : Fin 4096 → ℤ)

/-- A select by a decided bit, or two others both set. -/
theorem select_mask {α : Type} (p q r : Prop) [Decidable p] [Decidable q] [Decidable r] (x y : α) :
    Scalar.select (IntOp.ori (BitVec.ofBool (decide p)) (IntOp.andi (BitVec.ofBool (decide q)) (BitVec.ofBool (decide r)))) x y
      = if p ∨ (q ∧ r) then x else y := by
  by_cases h1 : p <;> by_cases h2 : q <;> by_cases h3 : r <;> simp [h1, h2, h3, Scalar.select, IntOp.andi, IntOp.ori]

/-- The body's mask at an entry, and what it selects there. -/
theorem mask_z (s : Fin 4096 → EReal) (t c : ℤ) (j : S32x128.Idx) :
    Scalar.select
        (IntOp.ori (BitVec.ofBool (decide (z t < tile (fun i => z (M i)) j)))
          (IntOp.andi (BitVec.ofBool (decide (tile (fun i => z (M i)) j = z t)))
            (BitVec.ofBool (decide (tile (fun i => z i.val) j < z c)))))
        (tile s j) ⊥ = tile (fun i => if i ∈ picked M t c then s i else ⊥) j := by
  rw [select_mask]
  simp only [tile, z_lt, z_inj, picked, Finset.mem_filter, Finset.mem_univ, true_and]

/-- The masked scores less their greatest. -/
theorem pay22_z (s : Fin 4096 → EReal) (t c : ℤ) :
    k0_pay22 (F := Ideal) (tile fun i => z (M i)) (tile s) (fun _ => z t) (fun _ => z c)
    = tile fun i => (if i ∈ picked M t c then s i else ⊥) - (picked M t c).sup s := by
  funext j
  unfold k0_pay22
  rw [pay15_z]
  pointwise [k0_pay13, k0_pay14]
  rw [lit_bot, max_cell (fun i => if i ∈ picked M t c then s i else ⊥) _ fun a => mask_z M s t c (ix2 a.1 a.2), sup_masked, mask_z M s t c j]
  rfl

/-- The row the body writes, from its reduced scores. -/
theorem pay23_z (x : Fin 4096 → EReal) (v : FVec Ideal S4096x64 .f32) (d : Fin 64) :
    k0_pay23 (F := Ideal) (tile x) v (ix3 0 0 d)
    = ∑ i, Ideal.div (Ideal.exp (x i)) (∑ j, Ideal.exp (x j)) * v (ix2 i d) := by
  pointwise [k0_pay23]
  have hs : ∑ a : Fin 32, ∑ b : Fin 128, Ideal.exp (tile x (ix2 a b)) = ∑ j, Ideal.exp (x j) := sum_cell fun i => Ideal.exp (x i)
  rw [hs]
  refine Finset.sum_congr rfl fun i _ => ?_
  congr 3
  unfold tile
  congr 1
  apply Fin.ext
  show i.val / 128 * 128 + i.val % 128 = i.val
  omega

/-- Exponentials are not negative. -/
theorem exp_nonneg (x : EReal) : 0 ≤ Ideal.exp x := by
  induction x using EReal.rec with
  | bot => exact le_refl _
  | top => exact le_top
  | coe r => exact EReal.coe_nonneg.mpr (Real.exp_pos r).le

/-- With finite scores the sum a softmax divides by is not zero. -/
theorem soft_sum_ne {n : ℕ} (A : Finset (Fin n)) (hA : A.Nonempty) (s : Fin n → EReal) (hs : ∀ i, ∃ r : ℝ, s i = r) :
    ∑ j ∈ A, Ideal.exp (s j - A.sup s) ≠ 0 := by
  obtain ⟨i, hi, e⟩ := Finset.exists_mem_eq_sup A hA s
  have h1 : (1 : EReal) ≤ ∑ j ∈ A, Ideal.exp (s j - A.sup s) := by
    refine le_trans (le_of_eq ?_) (Finset.single_le_sum (fun j _ => exp_nonneg _) hi)
    obtain ⟨r, hr⟩ := hs i
    rw [e, hr, ← EReal.coe_sub, sub_self]
    show (1 : EReal) = ((Real.exp 0 : ℝ) : EReal)
    rw [Real.exp_zero, EReal.coe_one]
  intro h
  rw [h] at h1
  exact absurd h1 (by simp)

/-- Masking the scores outside a set and taking the softmax over all is the softmax over the set, the scores being finite. -/
theorem soft_masked {n : ℕ} (A : Finset (Fin n)) (hA : A.Nonempty) (s v : Fin n → EReal) (hs : ∀ i, ∃ r : ℝ, s i = r) :
    (∑ i, Ideal.div (Ideal.exp ((if i ∈ A then s i else ⊥) - A.sup s))
      (∑ j, Ideal.exp ((if j ∈ A then s j else ⊥) - A.sup s)) * v i) = softOn A s v := by
  have h0 : ∀ i, i ∉ A → Ideal.exp ((if i ∈ A then s i else ⊥) - A.sup s) = 0 := fun i hi => by
    rw [if_neg hi, EReal.bot_sub]; rfl
  have h1 : ∀ i ∈ A, Ideal.exp ((if i ∈ A then s i else ⊥) - A.sup s) = Ideal.exp (s i - A.sup s) := fun i hi => by rw [if_pos hi]
  have hsum : ∑ j, Ideal.exp ((if j ∈ A then s j else ⊥) - A.sup s) = ∑ j ∈ A, Ideal.exp (s j - A.sup s) := by
    rw [← Finset.sum_subset (Finset.subset_univ A) fun i _ hi => h0 i hi]
    exact Finset.sum_congr rfl h1
  rw [hsum, softOn, ← Finset.sum_subset (Finset.subset_univ A) fun i _ hi => by
    rw [h0 i hi, Ideal.zero_div (soft_sum_ne A hA s hs), zero_mul]]
  exact Finset.sum_congr rfl fun i hi => by rw [h1 i hi]

/-- **What a head computes after its scores**: with integer match scores between −64 and 64 and finite scores, the softmax over
    any 128 positions of greatest match, the earlier of two equals first. -/
theorem head_z (hM : ∀ i, -64 ≤ M i ∧ M i ≤ 64) (s : Fin 4096 → EReal) (hs : ∀ i, ∃ r : ℝ, s i = r)
    (v : FVec Ideal S4096x64 .f32) (d : Fin 64) (A : Finset (Fin 4096)) (hA : IsTop M A) (hc : A.card = 128) :
    k0_pay23 (F := Ideal) (k0_pay22 (tile fun i => z (M i)) (tile s) (thr (tile fun i => z (M i)))
      (cut (tile fun i => z (M i)) (thr (tile fun i => z (M i))))) v (ix3 0 0 d)
    = softOn A s fun i => v (ix2 i d) := by
  obtain ⟨t, c, et, ec, hcard⟩ := search_z M hM
  obtain rfl : A = picked M t c := IsTop.unique M hA (isTop_picked M t c) (hc.trans hcard.symm)
  rw [et, ec, pay22_z, pay23_z]
  exact soft_masked _ (Finset.card_pos.mp (by rw [hcard]; norm_num)) s _ hs

end Cert.KernelIdeal.Hand

end
-- ==== Proof.Score.lean ====
/-
  The attention body's scores over the extended reals: its match scores are integers, 64 less twice the number of hash bits in
  which a key differs from the query, and its attention scores an eighth of the products of query and key.
-/
module

public import proofs.«01_k».proof.Proof.Soft

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Bit `d` of a row's hash: the sign of a rotation of the positive part of a rotation of the row. -/
def hashBit (r1 r2 : FVec Ideal S64x64 .f32) (x : Fin 64 → EReal) (d : Fin 64) : Prop :=
  0 < ∑ e : Fin 64, max (∑ c : Fin 64, x c * r1 (ix2 c e)) 0 * r2 (ix2 e d)

open Classical in
/-- A bit's sign. -/
def sgn (p : Prop) : ℤ := if p then 1 else -1

/-- The match of a query row and a key row: the number of hash bits that agree less the number that differ. -/
def matchOf (r1 r2 : FVec Ideal S64x64 .f32) (x y : Fin 64 → EReal) : ℤ :=
  ∑ d : Fin 64, sgn (hashBit r1 r2 x d) * sgn (hashBit r1 r2 y d)

open Classical in
/-- The number of hash bits in which two rows differ. -/
def hamOf (r1 r2 : FVec Ideal S64x64 .f32) (x y : Fin 64 → EReal) : ℕ :=
  (Finset.univ.filter fun d => ¬ (hashBit r1 r2 x d ↔ hashBit r1 r2 y d)).card

/-- At most 64 bits differ. -/
theorem hamOf_le (r1 r2 : FVec Ideal S64x64 .f32) (x y : Fin 64 → EReal) : hamOf r1 r2 x y ≤ 64 :=
  (Finset.card_le_univ _).trans (by simp)

/-- The match is 64 less twice the number of bits that differ. -/
theorem matchOf_eq (r1 r2 : FVec Ideal S64x64 .f32) (x y : Fin 64 → EReal) :
    matchOf r1 r2 x y = 64 - 2 * (hamOf r1 r2 x y : ℤ) := by
  classical
  have h : ∀ d : Fin 64, sgn (hashBit r1 r2 x d) * sgn (hashBit r1 r2 y d)
      = 1 - 2 * (if ¬ (hashBit r1 r2 x d ↔ hashBit r1 r2 y d) then 1 else 0) := fun d => by
    unfold sgn
    by_cases h1 : hashBit r1 r2 x d <;> by_cases h2 : hashBit r1 r2 y d <;> simp [h1, h2]
  unfold matchOf hamOf
  rw [Finset.sum_congr rfl fun d _ => h d, Finset.sum_sub_distrib, ← Finset.mul_sum, Finset.sum_boole]
  simp

/-- An integer sum as an extended real. -/
theorem z_sum {ι : Type} (s : Finset ι) (f : ι → ℤ) : z (∑ i ∈ s, f i) = ∑ i ∈ s, z (f i) := by
  classical
  induction s using Finset.induction_on with
  | empty => simp [z]
  | insert a s ha ih => rw [Finset.sum_insert ha, Finset.sum_insert ha, ← ih, z_add]

/-- Integers multiply as their values do. -/
theorem z_mul (a b : ℤ) : z a * z b = z (a * b) := by simp [z]

/-- The word of -1. -/
theorem lit_neg_one : Ideal.ofBits .f32 0xBF800000#32 = z (-1) := by
  simp [Ideal.ofBits, Ideal.ieee, z, -EReal.coe_mul, -EReal.coe_neg]; norm_num

/-- The word of an eighth. -/
theorem lit_eighth : Ideal.ofBits .f32 0x3E000000#32 = (((1 : ℝ) / 8 : ℝ) : EReal) := by
  simp [Ideal.ofBits, Ideal.ieee, -EReal.coe_mul]; norm_num

/-- A sign as the body selects it. -/
theorem sgn_z (p : Prop) [Decidable p] : (if p then (1 : EReal) else Ideal.ofBits .f32 0xBF800000#32) = z (sgn p) := by
  rw [lit_neg_one, sgn]
  by_cases h : p <;> simp [h, z_one]

/-- The body's match scores. -/
theorem pay4_z (r1 r2 : FVec Ideal S64x64 .f32) (k : FVec Ideal S4096x64 .f32) (q : FVec Ideal S1x1x64 .f32) :
    k0_pay4 (F := Ideal) r1 r2 k q
      = tile fun i => z (matchOf r1 r2 (fun c => q (ix3 0 0 c)) fun c => k (ix2 i c)) := by
  funext j
  pointwise [k0_pay4, k0_pay2, k0_pay3]
  simp only [tile, matchOf, z_sum, ← z_mul]
  refine Finset.sum_congr rfl fun d _ => ?_
  rw [sgn_z, sgn_z]
  rfl

/-- The body's attention scores. -/
theorem pay5_z (k : FVec Ideal S4096x64 .f32) (q : FVec Ideal S1x1x64 .f32) :
    k0_pay5 (F := Ideal) k q = tile fun i => (∑ c : Fin 64, q (ix3 0 0 c) * k (ix2 i c)) * (((1 : ℝ) / 8 : ℝ) : EReal) := by
  funext j
  pointwise [k0_pay5, k0_pay2, k0_pay3]
  rw [lit_eighth]
  rfl

/-- A sum of products of finite numbers is finite, and so is an eighth of it. -/
theorem score_finite (x y : Fin 64 → EReal) (hx : ∀ c, ∃ r : ℝ, x c = r) (hy : ∀ c, ∃ r : ℝ, y c = r) :
    ∃ r : ℝ, (∑ c, x c * y c) * (((1 : ℝ) / 8 : ℝ) : EReal) = r := by
  have h : ∃ r : ℝ, ∑ c, x c * y c = r := by
    refine Finset.sum_induction _ (fun w : EReal => ∃ r : ℝ, w = r) ?_ ⟨0, EReal.coe_zero.symm⟩ fun c _ => ?_
    · rintro _ _ ⟨a, rfl⟩ ⟨b, rfl⟩
      exact ⟨a + b, (EReal.coe_add a b).symm⟩
    · obtain ⟨a, ha⟩ := hx c
      obtain ⟨b, hb⟩ := hy c
      exact ⟨a * b, by rw [ha, hb, EReal.coe_mul]⟩
  obtain ⟨r, hr⟩ := h
  exact ⟨r * (1 / 8), by rw [hr, EReal.coe_mul]⟩

/-- **A head's row**: with a finite query and finite keys, the softmax of the eighths of their products over any 128 positions of
    greatest match, the earlier of two equals first, applied to the values. -/
theorem headOut_z (r1 r2 : FVec Ideal S64x64 .f32) (q : FVec Ideal S1x1x64 .f32) (k v : FVec Ideal S4096x64 .f32) (d : Fin 64)
    (hq : ∀ c, ∃ r : ℝ, q (ix3 0 0 c) = r) (hk : ∀ i c, ∃ r : ℝ, k (ix2 i c) = r)
    (A : Finset (Fin 4096)) (hA : IsTop (fun i => matchOf r1 r2 (fun c => q (ix3 0 0 c)) fun c => k (ix2 i c)) A)
    (hc : A.card = 128) :
    headOut (F := Ideal) r1 r2 q k v (ix3 0 0 d)
      = softOn A (fun i => (∑ c : Fin 64, q (ix3 0 0 c) * k (ix2 i c)) * (((1 : ℝ) / 8 : ℝ) : EReal)) fun i => v (ix2 i d) := by
  unfold headOut
  rw [pay4_z, pay5_z]
  refine head_z _ (fun i => ?_) _ (fun i => score_finite _ _ hq (hk i)) v d A hA hc
  have := hamOf_le r1 r2 (fun c => q (ix3 0 0 c)) fun c => k (ix2 i c)
  rw [matchOf_eq]
  omega

end Cert.KernelIdeal.Hand

end
-- ==== Proof.Byte.lean ====
/-
  Eight hash bits packed into a word, and how many bits two such words differ in by a table of 256 counts.
-/
module

public import proofs.«01_k».proof.Proof.Select
public import proofs.«01_k».proof.ReferenceIdeal

@[expose] public section

set_option maxRecDepth 16384

noncomputable section

namespace Cert.ReferenceIdeal.Hand

open Cert.ReferenceIdeal
open Idealize.ShloMosaic Idealize.ShloMosaic.TcCoe Idealize.ShloMosaic.Tactic

/-- Eight bits as a word: each times its power of two, added, kept to a byte. -/
def byte (p : Fin 8 → Bool) : BitVec 32 :=
  BitVec.setWidth 32 (BitVec.setWidth 8 (Finset.univ.fold IntOp.addi 0#32 fun x : Fin 8 =>
    IntOp.muli (BitVec.setWidth 32 (BitVec.setWidth 8 (BitVec.ofBool (p x)))) (lit0 (S8.rowMajor (ix1 x)))))

/-- A function of eight positions by its eight values. -/
theorem eight (p : Fin 8 → Bool) : p = ![p 0, p 1, p 2, p 3, p 4, p 5, p 6, p 7] := by
  funext i
  fin_cases i <;> rfl

/-- The packed word has those bits, the first lowest. -/
theorem byte_bits : ∀ b0 b1 b2 b3 b4 b5 b6 b7 : Bool,
    byte ![b0, b1, b2, b3, b4, b5, b6, b7] = (BitVec.ofBoolListLE [b0, b1, b2, b3, b4, b5, b6, b7]).setWidth 32 := by
  decide +kernel

/-- The table's entry at a packed word is the number of its bits that are set. -/
theorem table_bits : ∀ b0 b1 b2 b3 b4 b5 b6 b7 : Bool, ∀ h : (byte ![b0, b1, b2, b3, b4, b5, b6, b7]).toNat < 256,
    lit2 ⟨(byte ![b0, b1, b2, b3, b4, b5, b6, b7]).toNat, h⟩
     = BitVec.ofNat 32 (Finset.univ.filter fun i => ![b0, b1, b2, b3, b4, b5, b6, b7] i = true).card := by
  decide +kernel

/-- A packed word is below 256. -/
theorem byte_lt (p : Fin 8 → Bool) : (byte p).toNat < 256 := by
  unfold byte
  rw [BitVec.toNat_setWidth]
  exact lt_of_le_of_lt (Nat.mod_le _ _) (BitVec.isLt _)

/-- The exclusive or of two packed words packs the bits in which they differ. -/
theorem byte_xor (p q : Fin 8 → Bool) : byte p ^^^ byte q = byte fun i => p i ^^ q i := by
  rw [eight p, eight q, eight fun i => _, byte_bits, byte_bits, byte_bits]
  apply BitVec.eq_of_getLsbD_eq
  intro i hi
  simp only [BitVec.getLsbD_xor, BitVec.getLsbD_setWidth, BitVec.getLsbD_ofBoolListLE]
  match i with
  | 0 | 1 | 2 | 3 | 4 | 5 | 6 | 7 => simp
  | j + 8 => simp

/-- The table at the exclusive or of two packed words counts the bits in which they differ. -/
theorem table_xor (p q : Fin 8 → Bool) (h : (byte p ^^^ byte q).toNat < 256) :
    lit2 ⟨(byte p ^^^ byte q).toNat, h⟩ = BitVec.ofNat 32 (Finset.univ.filter fun i => p i ≠ q i).card := by
  have e : (⟨(byte p ^^^ byte q).toNat, h⟩ : Fin 256) = ⟨(byte fun i => p i ^^ q i).toNat, byte_lt _⟩ :=
    Fin.ext (congrArg BitVec.toNat (byte_xor p q))
  rw [e]
  have t := table_bits (p 0 ^^ q 0) (p 1 ^^ q 1) (p 2 ^^ q 2) (p 3 ^^ q 3) (p 4 ^^ q 4) (p 5 ^^ q 5) (p 6 ^^ q 6) (p 7 ^^ q 7)
  rw [← eight fun i => p i ^^ q i] at t
  rw [t (byte_lt _)]
  simp

end Cert.ReferenceIdeal.Hand

end
-- ==== Proof.Gath.lean ====
/-
  The reference's two gathers read at an index.
-/
module

public import proofs.«01_k».proof.Proof.Byte
public import proofs.«01_k».proof.Proof.Gen.ReferenceIdeal

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable {α : Type}

/-- The table read at a start index per byte. -/
theorem gather_table (x : S256.Idx → α) (idx : IVec S8x16x4096x8x1 32) (b : Fin 8) (h : Fin 16) (i : Fin 4096) (g : Fin 8) :
    Host.gather gather_S256_S8x16x4096x8x1_S8x16x4096x8_n_0_n_n_0_4_1 x idx (ix4 b h i g)
      = x (ix1 ⟨min (idx (ix5 b h i g 0)).toInt.toNat 255, by omega⟩) := by
  unfold Host.gather
  congr 1
  funext a
  obtain rfl : a = 0 := Subsingleton.elim _ _
  refine Fin.ext ?_
  have e : gather_S256_S8x16x4096x8x1_S8x16x4096x8_n_0_n_n_0_4_1.siIdx (ix4 b h i g) ⟨0, by decide⟩ = ix5 b h i g 0 := by
    funext c
    fin_cases c <;> rfl
  show min (idx (gather_S256_S8x16x4096x8x1_S8x16x4096x8_n_0_n_n_0_4_1.siIdx (ix4 b h i g) ⟨0, _⟩)).toInt.toNat 255 + 0 + 0 = _
  rw [e]
  rfl

/-- A row read at a start index per batch and position. -/
theorem gather_row (x : S8x16x4096x64.Idx → α) (idx : IVec S8x16x128x1 32) (b : Fin 8) (h : Fin 16) (p : Fin 128) (c : Fin 64) :
    Host.gather gather_S8x16x4096x64_S8x16x128x1_S8x16x128x64_3_2_01_01_2_3_11164 x idx (ix4 b h p c)
      = x (ix4 b h ⟨min (idx (ix4 b h p 0)).toInt.toNat 4095, by omega⟩ c) := by
  unfold Host.gather
  congr 1
  funext a
  refine Fin.ext ?_
  have e : gather_S8x16x4096x64_S8x16x128x1_S8x16x128x64_3_2_01_01_2_3_11164.siIdx (ix4 b h p c) ⟨0, by decide⟩ = ix4 b h p 0 := by
    funext c
    fin_cases c <;> rfl
  fin_cases a
  · show 0 + b.val + 0 = b.val; omega
  · show 0 + h.val + 0 = h.val; omega
  · show min (idx (gather_S8x16x4096x64_S8x16x128x1_S8x16x128x64_3_2_01_01_2_3_11164.siIdx (ix4 b h p c) ⟨0, _⟩)).toInt.toNat 4095 + 0 + 0 = _
    rw [e]
    rfl
  · show 0 + 0 + c.val = c.val; omega

end Cert.ReferenceIdeal.Hand

end
-- ==== Proof.RefScore.lean ====
/-
  The reference's scores over the extended reals: 64 less the number of hash bits in which a key differs from the query.
-/
module

public import proofs.«01_k».proof.Proof.Score
public import proofs.«01_k».proof.Proof.Gath
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Cert.KernelIdeal.Hand (hashBit hamOf matchOf)
open Idealize.ShloMosaic Idealize.ShloMosaic.TcCoe Idealize.ShloMosaic.Tactic
open Idealize.ShloMosaic.StableHlo

variable (V0 : Valuation τ sig (Elt Ideal)) (q : FVec Ideal S8x16x1x64 .f32) (k : FVec Ideal S8x16x4096x64 .f32)
  (r1 r2 : FVec Ideal S64x64 .f32)

/-- A hash bit as the reference decides it. -/
def hbit (x : Fin 64 → EReal) (d : Fin 64) : Bool :=
  decide (0 < ∑ e : Fin 64, max (∑ c : Fin 64, x c * r1 (ix2 c e)) 0 * r2 (ix2 e d))

/-- Bit `e` of byte `g` of the 64. -/
def bitOf (g e : Fin 8) : Fin 64 := ⟨g.val * 8 + e.val, by have := g.isLt; have := e.isLt; omega⟩

/-- The exclusive or of a query's and a key's packed hash, at byte `g`. -/
theorem v29_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (h : Fin 16) (i : Fin 4096) (g : Fin 8) :
    res_main_v29 V0 (ix4 b h i g) = (byte fun e => hbit r1 r2 (fun c => q (ix4 b h 0 c)) (bitOf g e))
      ^^^ byte fun e => hbit r1 r2 (fun c => k (ix4 b h i c)) (bitOf g e) := by
  unfold res_main_v29
  rw [hq, hk, h1, h2]
  pointwise []
  rfl

/-- Words that count, added, count the sum. -/
theorem fold_count {ι : Type} (s : Finset ι) (f : ι → ℕ) :
    s.fold IntOp.addi (0#32) (fun i => BitVec.ofNat 32 (f i)) = BitVec.ofNat 32 (∑ i ∈ s, f i) := by
  classical
  induction s using Finset.induction_on with
  | empty => rfl
  | insert a s ha ih =>
    rw [Finset.fold_insert ha, ih, Finset.sum_insert ha, BitVec.ofNat_add]
    rfl

/-- A word's signed value, when the word is small: its unsigned one; and it is not negative. -/
theorem small_word (w : BitVec 32) (hw : w.toNat < 4096) : w.toInt = (w.toNat : ℤ) ∧ IntOp.cmpi .slt w 0#32 = 0#1 := by
  have ht : w.toInt = (w.toNat : ℤ) := BitVec.toInt_eq_toNat_of_lt (by omega)
  refine ⟨ht, ?_⟩
  show BitVec.ofBool (BitVec.slt w 0#32) = 0#1
  have : BitVec.slt w 0#32 = false := by
    rw [BitVec.slt, ht]; simp
  rw [this]; rfl

/-- The table read at a word below 256, as the reference reads it: a negative index would count from the end. -/
theorem table_at (idx : IVec S8x16x4096x8x1 32) (b : Fin 8) (h : Fin 16) (i : Fin 4096) (g : Fin 8) (w : BitVec 32) (hw : w.toNat < 256)
    (e : idx (ix5 b h i g 0) = Scalar.select (IntOp.cmpi .slt w 0#32) (IntOp.addi w 256#32) w) :
    Host.gather gather_S256_S8x16x4096x8x1_S8x16x4096x8_n_0_n_n_0_4_1 (fun i => lit2 (S256.rowMajor i)) idx (ix4 b h i g)
      = lit2 ⟨w.toNat, hw⟩ := by
  rw [gather_table]
  refine congrArg lit2 (Fin.ext ?_)
  rw [rowMajor_val1]
  show min (idx (ix5 b h i g 0)).toInt.toNat 255 = w.toNat
  rw [e, (small_word w (by omega)).2]
  show min w.toInt.toNat 255 = w.toNat
  rw [(small_word w (by omega)).1]
  omega

/-- The bits in which a query and a key differ, counted byte by byte. -/
theorem ham_bytes (x y : Fin 64 → EReal) :
    ∑ g : Fin 8, (Finset.univ.filter fun e : Fin 8 => hbit r1 r2 x (bitOf g e) ≠ hbit r1 r2 y (bitOf g e)).card = hamOf r1 r2 x y := by
  classical
  have e : ∀ d : Fin 64, (if ¬ (hashBit r1 r2 x d ↔ hashBit r1 r2 y d) then 1 else 0)
      = (if hbit r1 r2 x d ≠ hbit r1 r2 y d then 1 else 0 : ℕ) := fun d => by
    refine if_congr (not_congr ?_) rfl rfl
    simp only [hashBit, hbit, decide_eq_decide]
  unfold hamOf
  simp only [Finset.card_filter]
  rw [Finset.sum_congr rfl fun d _ => e d]
  exact (Fin.sum_univ_tiles 8 8 (N := 64) rfl fun d => if hbit r1 r2 x d ≠ hbit r1 r2 y d then 1 else 0).symm

/-- **The reference's score** of a key: 64 less the number of hash bits in which it differs from the query. -/
theorem v39_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (h : Fin 16) (i : Fin 4096) :
    res_main_v39 V0 (ix3 b h i)
      = 64#32 - BitVec.ofNat 32 (hamOf r1 r2 (fun c => q (ix4 b h 0 c)) fun c => k (ix4 b h i c)) := by
  unfold res_main_v39
  pointwise []
  refine congrArg (IntOp.subi 64#32) ?_
  rw [← ham_bytes, ← fold_count]
  congr 1
  funext g
  have hw : ((byte fun e => hbit r1 r2 (fun c => q (ix4 b h 0 c)) (bitOf g e))
      ^^^ byte fun e => hbit r1 r2 (fun c => k (ix4 b h i c)) (bitOf g e)).toNat < 256 := by
    rw [byte_xor]; exact byte_lt _
  refine (table_at _ b h i g _ hw ?_).trans (table_xor _ _ hw)
  rw [← v29_apply V0 q k r1 r2 hq hk h1 h2]
  pointwise []

end Cert.ReferenceIdeal.Hand

end
-- ==== Proof.Pick.lean ====
/-
  The positions the reference picks: the first 128 of a stable sort by score, greatest first.
-/
module

public import proofs.«01_k».proof.Proof.RefScore

@[expose] public section

set_option maxRecDepth 16384

noncomputable section

namespace Cert.ReferenceIdeal.Hand

open Cert.ReferenceIdeal Cert.ReferenceIdeal.Gen Cert.ReferenceIdeal.Value
open Cert.KernelIdeal.Hand
open Idealize.ShloMosaic Idealize.ShloMosaic.TcCoe Idealize.ShloMosaic.Tactic
open Idealize.ShloMosaic.StableHlo

/-- A row's index moved along the last axis. -/
theorem along_ix3 (b : Fin 8) (h : Fin 16) (i j : Fin 4096) :
    Shape.Idx.along (s := S8x16x4096) (ix3 b h i) (2 : Fin 3) j = ix3 b h j := by
  funext a
  fin_cases a <;> rfl

/-- A sort of a row with its positions: the second result holds the permutation. -/
theorem sort_apply (cmp : BitVec 32 × BitVec 32 → BitVec 32 × BitVec 32 → BitVec 1) (x y : IVec S8x16x4096 32)
    (b : Fin 8) (h : Fin 16) (i : Fin 4096) :
    (Host.sort2 S8x16x4096 2 cmp x y).2 (ix3 b h i)
      = y (ix3 b h (sortedFrom (fun k k' => cmp (x (ix3 b h k), y (ix3 b h k)) (x (ix3 b h k'), y (ix3 b h k')) == 1#1) i)) := by
  unfold Host.sort2
  rw [dif_pos (by decide : 2 < S8x16x4096.rank)]
  show y (Shape.Idx.along (s := S8x16x4096) (ix3 b h i) (2 : Fin 3) (sortedFrom (fun k k' : Fin 4096 =>
    cmp (x (Shape.Idx.along (s := S8x16x4096) (ix3 b h i) (2 : Fin 3) k), y (Shape.Idx.along (s := S8x16x4096) (ix3 b h i) (2 : Fin 3) k))
      (x (Shape.Idx.along (s := S8x16x4096) (ix3 b h i) (2 : Fin 3) k'), y (Shape.Idx.along (s := S8x16x4096) (ix3 b h i) (2 : Fin 3) k'))
      == 1#1) i)) = _
  simp only [along_ix3]
  exact congrArg y (along_ix3 b h i _)

/-- The positions of the first 128 of a row, sorted greatest first. -/
theorem topk_apply (x : IVec S8x16x4096 32) (b : Fin 8) (h : Fin 16) (p : Fin 128) :
    (Host.topK S8x16x128 2 (IntOp.cmpi .sgt) x sliceFits_S8x16x4096_S8x16x128).2 (ix3 b h p)
      = BitVec.ofNat 32 (sortedFrom (fun i j => IntOp.cmpi .sgt (x (ix3 b h i)) (x (ix3 b h j)) == 1#1)
          (p.castLE (by decide : 128 ≤ 4096))).val := by
  have e : ∀ y : IVec S8x16x4096 32, extractStridedSlice S8x16x128 (fun _ => 0) y sliceFits_S8x16x4096_S8x16x128 (ix3 b h p)
      = y (ix3 b h (p.castLE (by decide : 128 ≤ 4096))) := fun y => by
    unfold extractStridedSlice
    congr 1
    funext a
    fin_cases a <;> exact Fin.ext (Nat.zero_add _)
  unfold Host.topK
  refine (e (Host.sort2 S8x16x4096 2 (fun l r => IntOp.cmpi .sgt l.1 r.1) x fun i =>
    if hd : 2 < S8x16x4096.rank then iotaInDim S8x16x4096 32 ⟨2, hd⟩ i else 0#32).2).trans ((sort_apply _ _ _ b h _).trans ?_)
  rfl

/-- Words `64 - a` and `64 - b` compare as `b` and `a` do the other way, for small `a` and `b`. -/
theorem sgt_ham (a b : ℕ) (ha : a ≤ 64) (hb : b ≤ 64) :
    (IntOp.cmpi .sgt (64#32 - BitVec.ofNat 32 a) (64#32 - BitVec.ofNat 32 b) == 1#1)
      = decide ((64 : ℤ) - 2 * b < 64 - 2 * a) := by
  have e : ∀ c : ℕ, c ≤ 64 → (64#32 - BitVec.ofNat 32 c).toInt = 64 - (c : ℤ) := fun c hc => by
    have : 64#32 - BitVec.ofNat 32 c = BitVec.ofNat 32 (64 - c) := by
      apply BitVec.eq_of_toNat_eq
      simp only [BitVec.toNat_sub, BitVec.toNat_ofNat]
      omega
    rw [this, BitVec.toInt_eq_toNat_of_lt (by rw [BitVec.toNat_ofNat]; omega), BitVec.toNat_ofNat]
    omega
  show (BitVec.ofBool (BitVec.slt _ _) == 1#1) = _
  rw [BitVec.slt, e a ha, e b hb]
  by_cases h : b > a
  · rw [decide_eq_true (by omega), decide_eq_true (by omega)]; rfl
  · rw [decide_eq_false (by omega), decide_eq_false (by omega)]; rfl

variable (V0 : Valuation τ sig (Elt Ideal)) (q : FVec Ideal S8x16x1x64 .f32) (k : FVec Ideal S8x16x4096x64 .f32)
  (r1 r2 : FVec Ideal S64x64 .f32)

/-- The matches of a head's keys. -/
def matches_ (b : Fin 8) (h : Fin 16) (i : Fin 4096) : ℤ := matchOf r1 r2 (fun c => q (ix4 b h 0 c)) fun c => k (ix4 b h i c)

/-- The position the reference picks `p`-th. -/
def pos (b : Fin 8) (h : Fin 16) (p : Fin 128) : Fin 4096 :=
  sortedFrom (fun i j => decide (matches_ q k r1 r2 b h j < matches_ q k r1 r2 b h i)) (p.castLE (by decide : 128 ≤ 4096))

/-- The reference's `p`-th index. -/
theorem v40_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (h : Fin 16) (p : Fin 128) :
    res_main_v40 V0 (ix4 b h p 0) = BitVec.ofNat 32 (pos q k r1 r2 b h p).val := by
  have e : (fun i j => IntOp.cmpi .sgt (res_main_v39 V0 (ix3 b h i)) (res_main_v39 V0 (ix3 b h j)) == 1#1)
      = fun i j => decide (matches_ q k r1 r2 b h j < matches_ q k r1 r2 b h i) := by
    funext i j
    rw [v39_apply V0 q k r1 r2 hq hk h1 h2, v39_apply V0 q k r1 r2 hq hk h1 h2, sgt_ham _ _ (hamOf_le _ _ _ _) (hamOf_le _ _ _ _)]
    unfold matches_
    rw [matchOf_eq, matchOf_eq]
  have t := topk_apply (res_main_v39 V0) b h p
  rw [e] at t
  refine Eq.trans ?_ t
  unfold res_main_v40
  pointwise []

/-- The same index after the reference has looked whether it counts from the end, in the first take. -/
theorem call2_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (h : Fin 16) (p : Fin 128) :
    res_main_call2_v4 V0 (ix4 b h p 0) = BitVec.ofNat 32 (pos q k r1 r2 b h p).val := by
  have hp := (pos q k r1 r2 b h p).isLt
  unfold res_main_call2_v4
  pointwise []
  rw [v40_apply V0 q k r1 r2 hq hk h1 h2, (small_word _ (by rw [BitVec.toNat_ofNat]; omega)).2]
  rfl

/-- And in the second take. -/
theorem call3_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (h : Fin 16) (p : Fin 128) :
    res_main_call3_v4 V0 (ix4 b h p 0) = BitVec.ofNat 32 (pos q k r1 r2 b h p).val :=
  call2_apply V0 q k r1 r2 hq hk h1 h2 b h p

/-- An `and` over one bit. -/
theorem fold_one (f : Fin 1 → BitVec 1) : Finset.univ.fold IntOp.andi 1#1 f = IntOp.andi (f 0) 1#1 := by
  rw [Finset.univ_unique, Finset.fold_singleton]; rfl

/-- A row taken at an index in range is the row at that position: the take's guard holds, and its clamp does nothing. -/
theorem take_apply (x : FVec Ideal S8x16x4096x64 .f32) (idx : IVec S8x16x128x1 32) (b : Fin 8) (h : Fin 16) (p : Fin 128) (c : Fin 64)
    (i : Fin 4096) (e : idx (ix4 b h p 0) = BitVec.ofNat 32 i.val) :
    Scalar.select (Finset.univ.fold IntOp.andi (1#1) fun x : Fin 1 =>
          IntOp.andi (IntOp.cmpi .sge (idx (ix4 b h p x)) 0#32) (IntOp.cmpi .sle (idx (ix4 b h p x)) 4095#32))
        (Host.gather gather_S8x16x4096x64_S8x16x128x1_S8x16x128x64_3_2_01_01_2_3_11164 x idx (ix4 b h p c))
        (Ideal.ofBits .f32 2143289344#32)
      = x (ix4 b h i c) := by
  have hi := i.isLt
  have g := gather_row x idx b h p c
  have t : (BitVec.ofNat 32 i.val).toNat = i.val := by rw [BitVec.toNat_ofNat]; omega
  have w := small_word (BitVec.ofNat 32 i.val) (by omega)
  rw [t] at w
  have c0 : IntOp.cmpi .sge (BitVec.ofNat 32 i.val) 0#32 = 1#1 := by
    show BitVec.ofBool (BitVec.sle 0#32 (BitVec.ofNat 32 i.val)) = 1#1
    rw [BitVec.sle, w.1, decide_eq_true (by simp)]; rfl
  have c1 : IntOp.cmpi .sle (BitVec.ofNat 32 i.val) 4095#32 = 1#1 := by
    show BitVec.ofBool (BitVec.sle (BitVec.ofNat 32 i.val) 4095#32) = 1#1
    rw [BitVec.sle, w.1, decide_eq_true (by show (i.val : ℤ) ≤ 4095; omega)]; rfl
  rw [fold_one, e, c0, c1]
  refine g.trans (congrArg (fun r => x (ix4 b h r c)) (Fin.ext ?_))
  show min (idx (ix4 b h p 0)).toInt.toNat 4095 = i.val
  rw [e, w.1]
  omega

end Cert.ReferenceIdeal.Hand

end
-- ==== Proof.RefSoft.lean ====
/-
  The reference's output over the extended reals: each head a softmax over the positions it picks, then the projection.
-/
module

public import proofs.«01_k».proof.Proof.Pick

@[expose] public section

set_option maxRecDepth 16384

noncomputable section

namespace Cert.ReferenceIdeal.Hand

open Cert.ReferenceIdeal Cert.ReferenceIdeal.Gen Cert.ReferenceIdeal.Value
open Cert.KernelIdeal.Hand
open Idealize.ShloMosaic Idealize.ShloMosaic.TcCoe Idealize.ShloMosaic.Tactic
open Idealize.ShloMosaic.StableHlo

variable (V0 : Valuation τ sig (Elt Ideal)) (q : FVec Ideal S8x16x1x64 .f32) (k v : FVec Ideal S8x16x4096x64 .f32)
  (r1 r2 : FVec Ideal S64x64 .f32) (w : FVec Ideal S1024x1024 .f32)

/-- A head's score of a key: an eighth of their product. -/
def scoreOf (b : Fin 8) (h : Fin 16) (i : Fin 4096) : EReal :=
  (∑ c : Fin 64, q (ix4 b h 0 c) * k (ix4 b h i c)) * (((1 : ℝ) / 8 : ℝ) : EReal)

/-- Division by the square root of 64 is multiplication by an eighth. -/
theorem div_eight (x : EReal) : Ideal.div x (Ideal.sqrt (Ideal.ofBits .f32 0x42800000#32)) = x * (((1 : ℝ) / 8 : ℝ) : EReal) := by
  have e : Ideal.sqrt (Ideal.ofBits .f32 0x42800000#32) = ((8 : ℝ) : EReal) := by
    rw [lit_64]
    show Ideal.sqrt (((64 : ℤ) : ℝ) : EReal) = _
    have : Real.sqrt ((64 : ℤ) : ℝ) = 8 := by
      rw [show ((64 : ℤ) : ℝ) = 8 ^ 2 by norm_num]; exact Real.sqrt_sq (by norm_num)
    rw [← this]
    exact (if_neg (by norm_num)).trans rfl
  rw [e, Ideal.div, if_neg (by norm_num), ← EReal.coe_inv]
  norm_num

/-- The reference's scores of the keys taken at given indices. -/
theorem score_apply (idx : IVec S8x16x128x1 32) (b : Fin 8) (h : Fin 16) (p : Fin 128) (i : Fin 4096)
    (e : idx (ix4 b h p 0) = BitVec.ofNat 32 i.val) :
    (Host.divf (Host.dotGeneral dot_S8x16x1x64_S8x16x64x128_S8x16x1x128_3_2_2_3_01_01 none q (transpose S8x16x64x128 [0, 1, 3, 2] (select (broadcastInDim S8x16x128x64 ![0, 1, 2] bcast_S8x16x128_S8x16x128x64_0_1_2 (Host.reduce IntOp.andi (andi (cmpi .sge idx (broadcastInDim S8x16x128x1 ![] bcast_S_S8x16x128x1 (constantI S_ 32 0#32))) (cmpi .sle idx (broadcastInDim S8x16x128x1 ![0, 1, 2, 3] bcast_S1x1x1x1_S8x16x128x1_0_1_2_3 (broadcastInDim S1x1x1x1 ![3] bcast_S1_S1x1x1x1_3 (constantI S1 32 4095#32))))) (constantI S_ 1 1#1) reducesTo_S8x16x128x1_S8x16x128_d3 h_S_)) (Host.gather gather_S8x16x4096x64_S8x16x128x1_S8x16x128x64_3_2_01_01_2_3_11164 k idx) (broadcastInDim S8x16x128x64 ![] bcast_S_S8x16x128x64 (constant S_ .f32 0x7FC00000#32))) transposes_S8x16x128x64_S8x16x64x128_0_1_3_2)) (broadcastInDim S8x16x1x128 ![] bcast_S_S8x16x1x128 (Host.sqrt (constant S_ .f32 0x42800000#32))) : FVec Ideal S8x16x1x128 .f32) (ix4 b h 0 p)
      = scoreOf q k b h i := by
  pointwise []
  simp only [take_apply _ _ b h p _ _ e]
  exact div_eight _

/-- The exponentials of scores less the greatest. -/
theorem exps_apply (s : FVec Ideal S8x16x1x128 .f32) (b : Fin 8) (h : Fin 16) (p : Fin 128) :
    (Host.exp (subf s (broadcastInDim S8x16x1x128 ![0, 1, 2, 3] bcast_S8x16x1x1_S8x16x1x128_0_1_2_3 (broadcastInDim S8x16x1x1 ![0, 1, 2] bcast_S8x16x1_S8x16x1x1_0_1_2 (maximumf (broadcastInDim S8x16x1 ![] bcast_S_S8x16x1 (constant S_ .f32 0xFF800000#32)) (Host.reduce FloatOps.maximumf s (constant S_ .f32 0xFF800000#32) reducesTo_S8x16x1x128_S8x16x1_d3 h_S_))))) : FVec Ideal S8x16x1x128 .f32) (ix4 b h 0 p)
      = Ideal.exp (s (ix4 b h 0 p) - Finset.univ.sup fun p => s (ix4 b h 0 p)) := by
  pointwise []
  rw [lit_bot, max_eq_right bot_le]
  rfl

/-- The reference's output as its operations compute it, of exponentials and of the indices its second take is given. -/
def refOut (e : FVec Ideal S8x16x1x128 .f32) (idx : IVec S8x16x128x1 32) : FVec Ideal S8x1x1024 .f32 :=
  Host.dotGeneral dot_S8x1x1024_S1024x1024_S8x1x1024_2_0_01_1_n_n none (shapeCast _ (transpose S8x1x16x64 [0, 2, 1, 3] (Host.dotGeneral dot_S8x16x1x128_S8x16x128x64_S8x16x1x64_3_2_2_3_01_01 none (Host.divf e (broadcastInDim S8x16x1x128 ![0, 1, 2, 3] bcast_S8x16x1x1_S8x16x1x128_0_1_2_3 (broadcastInDim S8x16x1x1 ![0, 1, 2] bcast_S8x16x1_S8x16x1x1_0_1_2 (Host.reduceAdd e (constant S_ .f32 0x00000000#32) reducesTo_S8x16x1x128_S8x16x1_d3 h_S_)))) (select (broadcastInDim S8x16x128x64 ![0, 1, 2] bcast_S8x16x128_S8x16x128x64_0_1_2 (Host.reduce IntOp.andi (andi (cmpi .sge idx (broadcastInDim S8x16x128x1 ![] bcast_S_S8x16x128x1 (constantI S_ 32 0#32))) (cmpi .sle idx (broadcastInDim S8x16x128x1 ![0, 1, 2, 3] bcast_S1x1x1x1_S8x16x128x1_0_1_2_3 (broadcastInDim S1x1x1x1 ![3] bcast_S1_S1x1x1x1_3 (constantI S1 32 4095#32))))) (constantI S_ 1 1#1) reducesTo_S8x16x128x1_S8x16x128_d3 h_S_)) (Host.gather gather_S8x16x4096x64_S8x16x128x1_S8x16x128x64_3_2_01_01_2_3_11164 v idx) (broadcastInDim S8x16x128x64 ![] bcast_S_S8x16x128x64 (constant S_ .f32 0x7FC00000#32)))) transposes_S8x16x1x64_S8x1x16x64_0_2_1_3) shapeCasts_S8x1x16x64_S8x1x1024) (transpose S1024x1024 [1, 0] w transposes_S1024x1024_S1024x1024_1_0)

/-- The output of exponentials and of values taken at given indices: each column a product with a row of the projection. -/
theorem out_apply (e : FVec Ideal S8x16x1x128 .f32) (idx : IVec S8x16x128x1 32) (f : Fin 8 → Fin 16 → Fin 128 → Fin 4096)
    (he : ∀ b h p, idx (ix4 b h p 0) = BitVec.ofNat 32 (f b h p).val) (b : Fin 8) (n : Fin 1024) :
    refOut v w e idx (ix3 b 0 n)
      = ∑ c : Fin 1024, (∑ p : Fin 128, Ideal.div (e (ix4 b ⟨c.val / 64, by omega⟩ 0 p)) (∑ p : Fin 128, e (ix4 b ⟨c.val / 64, by omega⟩ 0 p))
          * v (ix4 b ⟨c.val / 64, by omega⟩ (f b ⟨c.val / 64, by omega⟩ p) ⟨c.val % 64, by omega⟩)) * w (ix2 n c) := by
  unfold refOut
  pointwise []
  simp only [take_apply _ _ _ _ _ _ _ (he _ _ _)]

/-- The softmax over the positions a stable sort puts first, written over their places in the sort. -/
theorem soft_first (M : Fin 4096 → ℤ) (s x : Fin 4096 → EReal) (f : Fin 128 → Fin 4096)
    (hf : f = fun p => sortedFrom (fun i j => decide (M j < M i)) (p.castLE (by decide : 128 ≤ 4096))) :
    ∑ p : Fin 128, Ideal.div (Ideal.exp (s (f p) - Finset.univ.sup fun p => s (f p)))
        (∑ p : Fin 128, Ideal.exp (s (f p) - Finset.univ.sup fun p => s (f p))) * x (f p)
      = softOn (firstOf M 128 (by decide)) s x := by
  have hj : Function.Injective f := by rw [hf]; exact firstOf_inj M 128 (by decide)
  have hi : firstOf M 128 (by decide) = Finset.univ.image f := by rw [hf]; rfl
  unfold softOn
  rw [hi, Finset.sum_image fun a _ b _ h => hj h, Finset.sum_image fun a _ b _ h => hj h, Finset.sup_image]
  rfl

/-- **The reference's output**: a row of softmaxes over each head's first 128 positions, times a row of the projection. -/
theorem refOut_apply (hq : V0 (Proc.devRef .tc main_arg0) = q) (hk : V0 (Proc.devRef .tc main_arg1) = k)
    (h1 : V0 (Proc.devRef .tc main_arg3) = r1) (h2 : V0 (Proc.devRef .tc main_arg4) = r2)
    (b : Fin 8) (n : Fin 1024) :
    refOut v w (res_main_v54 V0) (res_main_call3_v4 V0) (ix3 b 0 n)
      = ∑ c : Fin 1024, softOn (firstOf (matches_ q k r1 r2 b ⟨c.val / 64, by omega⟩) 128 (by decide))
          (scoreOf q k b ⟨c.val / 64, by omega⟩) (fun i => v (ix4 b ⟨c.val / 64, by omega⟩ i ⟨c.val % 64, by omega⟩)) * w (ix2 n c) := by
  have s47 : ∀ b h p, res_main_v47 V0 (ix4 b h 0 p) = scoreOf q k b h (pos q k r1 r2 b h p) := fun b h p => by
    rw [← hq, ← hk, ← h1, ← h2]
    exact score_apply _ _ _ b h p _ (call2_apply V0 _ _ _ _ rfl rfl rfl rfl b h p)
  have s54 : ∀ b h p, res_main_v54 V0 (ix4 b h 0 p) = Ideal.exp (scoreOf q k b h (pos q k r1 r2 b h p)
      - Finset.univ.sup fun p => scoreOf q k b h (pos q k r1 r2 b h p)) := fun b h p => by
    have := exps_apply (res_main_v47 V0) b h p
    simp only [s47] at this
    exact this
  refine (out_apply _ _ (res_main_v54 V0) (res_main_call3_v4 V0) (pos q k r1 r2)
    (call3_apply V0 q k r1 r2 hq hk h1 h2) b n).trans ?_
  refine Finset.sum_congr rfl fun c _ => ?_
  refine congrArg (· * w (ix2 n c)) ?_
  simp only [s54]
  exact soft_first (matches_ q k r1 r2 b ⟨c.val / 64, by omega⟩) (scoreOf q k b ⟨c.val / 64, by omega⟩)
    (fun i => v (ix4 b ⟨c.val / 64, by omega⟩ i ⟨c.val % 64, by omega⟩)) (pos q k r1 r2 b ⟨c.val / 64, by omega⟩) rfl

end Cert.ReferenceIdeal.Hand

end
-- ==== Proof.Value.lean ====
/-
  The kernel's output over the extended reals, and its equality with the reference's.
-/
module

public import proofs.«01_k».proof.Proof.KernelRun
public import proofs.«01_k».proof.Proof.RefSoft

@[expose] public section

set_option maxRecDepth 16384

noncomputable section

namespace Cert.KernelIdeal.Hand

open Cert.KernelIdeal Cert.KernelIdeal.Gen
open Cert.ReferenceIdeal.Hand (matches_ scoreOf refOut)
open Idealize.ShloMosaic Idealize.ShloMosaic.TcCoe Idealize.ShloMosaic.Tactic

variable (q : FVec Ideal S8x16x1x64 .f32) (k v : FVec Ideal S8x16x4096x64 .f32)
  (r1 r2 : FVec Ideal S64x64 .f32) (w : FVec Ideal S1024x1024 .f32)

/-- The row of a batch and a head. -/
def rowOf (b : Fin 8) (h : Fin 16) : Fin 128 := ⟨b.val * 16 + h.val, by omega⟩

/-- A head's query in the reshaped queries. -/
theorem q_row (b : Fin 8) (h : Fin 16) (c : Fin 64) :
    qRow (shapeCast S128x1x64 q shapeCasts_S8x16x1x64_S128x1x64) (rowOf b h) (ix3 0 0 c) = q (ix4 b h 0 c) := by
  show shapeCast S128x1x64 q shapeCasts_S8x16x1x64_S128x1x64 (ix3 (rowOf b h) 0 c) = _
  pointwise []
  have hr : (rowOf b h).val = b.val * 16 + h.val := rfl
  have e0 : (rowOf b h).val / 16 = b.val := by omega
  have e1 : (rowOf b h).val % 16 = h.val := by omega
  simp only [e0, e1]

/-- A head's keys, or values, in the reshaped ones. -/
theorem kv_row (b : Fin 8) (h : Fin 16) (i : Fin 4096) (c : Fin 64) :
    kvRows (shapeCast S524288x64 k shapeCasts_S8x16x4096x64_S524288x64) (rowOf b h) (ix2 i c) = k (ix4 b h i c) := by
  show shapeCast S524288x64 k shapeCasts_S8x16x4096x64_S524288x64
    (ix2 ⟨4096 * (rowOf b h).val + i.val, by have := (rowOf b h).isLt; omega⟩ c) = _
  pointwise []
  have hr : (rowOf b h).val = b.val * 16 + h.val := rfl
  have e0 : (4096 * (rowOf b h).val + i.val) / 65536 = b.val := by omega
  have e1 : (4096 * (rowOf b h).val + i.val) / 4096 % 16 = h.val := by omega
  simp only [e0, e1]

/-- The kernel's output of the attention rows: each column a product with a row of the projection. -/
theorem proj_apply (x : FVec Ideal S128x1x64 .f32) (b : Fin 8) (n : Fin 1024) :
    shapeCast S8x1x1024 (k1_pay1 (shapeCast S8x1024 x shapeCasts_S128x1x64_S8x1024) w) shapeCasts_S8x1024_S8x1x1024 (ix3 b 0 n)
      = ∑ c : Fin 1024, x (ix3 (rowOf b ⟨c.val / 64, by omega⟩) 0 ⟨c.val % 64, by omega⟩) * w (ix2 n c) := by
  pointwise [k1_pay1]
  rfl

variable (hq : ∀ b h c, ∃ r : ℝ, q (ix4 b h 0 c) = r) (hk : ∀ b h i c, ∃ r : ℝ, k (ix4 b h i c) = r)
include hq hk

/-- **The kernel's attention**: with finite queries and keys, the softmax over a head's first 128 positions. -/
theorem attn_apply (b : Fin 8) (h : Fin 16) (d : Fin 64) :
    attnOut (F := Ideal) r1 r2 (shapeCast S128x1x64 q shapeCasts_S8x16x1x64_S128x1x64)
        (shapeCast S524288x64 k shapeCasts_S8x16x4096x64_S524288x64)
        (shapeCast S524288x64 v shapeCasts_S8x16x4096x64_S524288x64) (ix3 (rowOf b h) 0 d)
      = softOn (firstOf (matches_ q k r1 r2 b h) 128 (by decide)) (scoreOf q k b h) (fun i => v (ix4 b h i d)) := by
  show headOut r1 r2 (qRow (shapeCast S128x1x64 q shapeCasts_S8x16x1x64_S128x1x64) (rowOf b h))
    (kvRows (shapeCast S524288x64 k shapeCasts_S8x16x4096x64_S524288x64) (rowOf b h))
    (kvRows (shapeCast S524288x64 v shapeCasts_S8x16x4096x64_S524288x64) (rowOf b h)) (ix3 0 0 d) = _
  rw [headOut_z r1 r2 _ _ _ d (fun c => by rw [q_row]; exact hq b h c) (fun i c => by rw [kv_row]; exact hk b h i c)
    (firstOf (matches_ q k r1 r2 b h) 128 (by decide)) (by simp only [q_row, kv_row]; exact isTop_firstOf _ _ _) (card_firstOf _ _ _)]
  simp only [q_row, kv_row]
  rfl

/-- **The kernel computes the reference**, given finite queries and keys. -/
theorem kernelOut_eq (V0 : Valuation Cert.ReferenceIdeal.τ Cert.ReferenceIdeal.sig (Elt Ideal))
    (e0 : V0 (Proc.devRef .tc Cert.ReferenceIdeal.main_arg0) = q) (e1 : V0 (Proc.devRef .tc Cert.ReferenceIdeal.main_arg1) = k)
    (e2 : V0 (Proc.devRef .tc Cert.ReferenceIdeal.main_arg2) = v)
    (e3 : V0 (Proc.devRef .tc Cert.ReferenceIdeal.main_arg3) = r1) (e4 : V0 (Proc.devRef .tc Cert.ReferenceIdeal.main_arg4) = r2)
    (e5 : V0 (Proc.devRef .tc Cert.ReferenceIdeal.main_arg5) = w) :
    refOut (V0 (Proc.devRef .tc Cert.ReferenceIdeal.main_arg2)) (V0 (Proc.devRef .tc Cert.ReferenceIdeal.main_arg5))
        (Cert.ReferenceIdeal.Value.res_main_v54 V0) (Cert.ReferenceIdeal.Value.res_main_call3_v4 V0)
      = kernelOut (F := Ideal) q k v r1 r2 w := by
  rw [e2, e5]
  funext j
  obtain ⟨b, z, n, rfl⟩ : ∃ (b : Fin 8) (z : Fin 1) (n : Fin 1024), j = ix3 b z n :=
    ⟨j 0, j 1, j 2, by funext a; fin_cases a <;> rfl⟩
  obtain rfl : z = 0 := Subsingleton.elim _ _
  rw [Cert.ReferenceIdeal.Hand.refOut_apply V0 q k v r1 r2 w e0 e1 e3 e4 b n]
  unfold kernelOut
  rw [proj_apply]
  refine Finset.sum_congr rfl fun c _ => ?_
  rw [attn_apply q k v r1 r2 hq hk]

end Cert.KernelIdeal.Hand

end
-- ==== Proof.Algebraic.lean ====
/-
  The value claim: from equal arguments, with finite queries and keys, the kernel and the reference end with equal outputs.
-/
module

public import proofs.«01_k».proof.Defs
public import proofs.«01_k».proof.Proof.Frames
public import proofs.«01_k».proof.Proof.Value

@[expose] public section

set_option maxRecDepth 16384

noncomputable section

namespace Cert.Proof

open Idealize.ShloMosaic Idealize.ShloMosaic.TcCoe Idealize.ShloMosaic.Tactic Idealize.SL.Sem

/-- The side conditions of the precondition's operations. -/
theorem pre_facts : Cert.Pre_finite_qk.Facts where
  bcast_S_S8x16x1x64 := by decide
  bcast_S_S8x16x4096x64 := by decide
  bcast_S8x16x1x64_S8x16x4096x64_0_1_2_3 := by decide

/-- The word of infinity reads as the greatest extended real. -/
theorem lit_top : Ideal.ofBits .f32 0x7F800000#32 = ⊤ := by
  simp [Ideal.ofBits, Ideal.ieee]

/-- An extended real of absolute value below `⊤` is real. -/
theorem real_of_abs (x : EReal) (h : FloatOps.absf (F := Ideal) (φ := .f32) x < (⊤ : EReal)) : ∃ r : ℝ, x = r := by
  induction x with
  | bot => exact absurd h (by simp [Ideal.absf_def])
  | top => exact absurd h (by simp [Ideal.absf_def])
  | coe r => exact ⟨r, rfl⟩

attribute [local instance] pre_facts in
/-- Where the precondition holds, every query and every key is real. -/
theorem finite_of_pre (q : FVec Ideal Cert.KernelIdeal.S8x16x1x64 .f32) (k v : FVec Ideal Cert.KernelIdeal.S8x16x4096x64 .f32)
    (r1 r2 : FVec Ideal Cert.KernelIdeal.S64x64 .f32) (w : FVec Ideal Cert.KernelIdeal.S1024x1024 .f32)
    (h : Cert.Pre_finite_qk.fn (F := Ideal) q k v r1 r2 w = fun _ => 1#1) :
    (∀ b h c, ∃ r : ℝ, q (ix4 b h 0 c) = r) ∧ ∀ b h i c, ∃ r : ℝ, k (ix4 b h i c) = r := by
  have e : ∀ (b : Fin 8) (h : Fin 16) (i : Fin 4096) (c : Fin 64),
      Cert.Pre_finite_qk.fn (F := Ideal) q k v r1 r2 w (ix4 b h i c) = 1#1 := fun b h' i c => congrFun h _
  pointwise [Cert.Pre_finite_qk.fn] at e
  rw [lit_top] at e
  have both : ∀ p r : Prop, ∀ [Decidable p] [Decidable r],
      IntOp.andi (BitVec.ofBool (decide p)) (BitVec.ofBool (decide r)) = 1#1 → p ∧ r := fun p r _ _ h => by
    by_cases hp : p <;> by_cases hr : r
    · exact ⟨hp, hr⟩
    all_goals
      simp only [hp, hr, decide_true, decide_false] at h
      exact absurd h (by decide)
  exact ⟨fun b h c => real_of_abs _ (both _ _ (e b h 0 c)).1, fun b h i c => real_of_abs _ (both _ _ (e b h i c)).2⟩

attribute [local instance] pre_facts in
/-- **The value claim**: given finite queries and keys, both programs run and end with the same output, their arguments unchanged. -/
theorem algebraic_claim : Cert.algebraic_KernelIdeal_ReferenceIdeal_pre_finite_qk := by
  intro m g m' g' hpre heq
  refine ⟨fun c => Cert.KernelIdeal.Hand.kernelOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run _ _ _).mono (fun _ h => h.1) (Cert.KernelIdeal.Hand.run_kernel (F := Ideal) m g)
  · refine (θ_run _ _ _).mono (fun r h c => ⟨(h c).1.trans ?_, (h c).2⟩) (Cert.ReferenceIdeal.Value.run (F := Ideal) m' g')
    obtain ⟨a0, a1, a2, a3, a4, a5⟩ := heq c
    have fin := finite_of_pre _ _ _ _ _ _ (hpre c)
    exact Cert.KernelIdeal.Hand.kernelOut_eq _ _ _ _ _ _ fin.1 fin.2 (StableHlo.launchContents m' c) a0 a1 a2 a3 a4 a5

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim the certificate makes. The two programs' frames hold with or without the precondition. -/
theorem claim : Cert.Claim := ⟨Cert.Kernel.Gen.facts, Cert.KernelIdeal.Gen.facts, Cert.ReferenceIdeal.Gen.facts, pre_facts,
  frame_Kernel, frame_KernelIdeal, fun m g _ => frame_KernelIdeal m g trivial,
  frame_ReferenceIdeal, fun m g _ => frame_ReferenceIdeal m g trivial, trivial, algebraic_claim⟩

end Cert.Proof

end
